-- ==== Defs.lean ====
def Pre_Kernel [hPre_tokens_in_range : Cert.Pre_tokens_in_range.Facts] (m : (ℓ : Loc Cert.Kernel.nD Cert.Kernel.τ Cert.Kernel.sig) → Buf (Elt Bits) ℓ) : Prop :=
  ∀ c : Dev Cert.Kernel.nD,
    (Cert.Pre_tokens_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_tokens_in_range : Cert.Pre_tokens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_range [hPre_tokens_in_range : Cert.Pre_tokens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_tokens_in_range : Cert.Pre_tokens_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tokens_in_range [hReferenceIdeal : Cert.ReferenceIdeal.Facts] [hPre_tokens_in_range : Cert.Pre_tokens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tokens_in_range : Cert.Pre_tokens_in_range.Facts),
    quiescent_Kernel (hKernel := hKernel) (hPre_tokens_in_range := hPre_tokens_in_range)
    ∧ quiescent_KernelIdeal (hKernelIdeal := hKernelIdeal) (hPre_tokens_in_range := hPre_tokens_in_range)
    ∧ quiescent_ReferenceIdeal (hReferenceIdeal := hReferenceIdeal)
    ∧ quiescent_ReferenceIdeal_pre_tokens_in_range (hReferenceIdeal := hReferenceIdeal) (hPre_tokens_in_range := hPre_tokens_in_range)
    ∧ preserves_Kernel_KernelIdeal
    ∧ algebraic_KernelIdeal_ReferenceIdeal (hKernelIdeal := hKernelIdeal) (hReferenceIdeal := hReferenceIdeal) (hPre_tokens_in_range := hPre_tokens_in_range)
-- ==== Pre_tokens_in_range.lean ====
abbrev S1024x3x200 : Shape := ⟨3, ![1024, 3, 200]⟩
abbrev S4101x768 : Shape := ⟨2, ![4101, 768]⟩
abbrev S768 : Shape := ⟨1, ![768]⟩
abbrev S768x256 : Shape := ⟨2, ![768, 256]⟩
abbrev S256 : Shape := ⟨1, ![256]⟩
abbrev S_ : Shape := ⟨0, ![]⟩

class Facts : Prop where
  bcast_S_S1024x3x200 : S_.BroadcastsInDim S1024x3x200 (![] : Fin 0 → Fin S1024x3x200.rank)
  reducesTo_S1024x3x200_S_d0_1_2 : S1024x3x200.ReducesTo [0, 1, 2] S_
  h_S_ : 0 < S_.numel
  bcast_S_S4101x768 : S_.BroadcastsInDim S4101x768 (![] : Fin 0 → Fin S4101x768.rank)
  reducesTo_S4101x768_S_d0_1 : S4101x768.ReducesTo [0, 1] S_

variable [Facts]

def fn {F : FTy → Type} [FloatOps F] (main_arg0 : IVec S1024x3x200 32) (main_arg1 : FVec F S4101x768 .f32) (main_arg2 : FVec F S768 .f32) (main_arg3 : FVec F S768x256 .f32) (main_arg4 : FVec F S256 .f32) : IVec S_ 1 :=
  let main_c : IVec S_ 32 := constantI S_ 32 0#32
  let main_v0 : IVec S1024x3x200 32 := broadcastInDim S1024x3x200 ![] bcast_S_S1024x3x200 main_c
  let main_v1 : IVec S1024x3x200 1 := cmpi .sge main_arg0 main_v0
  let main_c_0 : IVec S_ 1 := constantI S_ 1 1#1
  let main_v2 : IVec S_ 1 := (fun x v => Host.reduce IntOp.andi x v reducesTo_S1024x3x200_S_d0_1_2 h_S_) main_v1 main_c_0
  let main_c_1 : IVec S_ 32 := constantI S_ 32 4101#32
  let main_v3 : IVec S1024x3x200 32 := broadcastInDim S1024x3x200 ![] bcast_S_S1024x3x200 main_c_1
  let main_v4 : IVec S1024x3x200 1 := cmpi .slt main_arg0 main_v3
  let main_c_2 : IVec S_ 1 := constantI S_ 1 1#1
  let main_v5 : IVec S_ 1 := (fun x v => Host.reduce IntOp.andi x v reducesTo_S1024x3x200_S_d0_1_2 h_S_) main_v4 main_c_2
  let main_v6 : IVec S_ 1 := andi main_v2 main_v5
  let main_v7 : FVec F S4101x768 .f32 := Host.absf main_arg1
  let main_cst : FVec F S_ .f32 := constant S_ .f32 0x7F800000#32
  let main_v8 : FVec F S4101x768 .f32 := broadcastInDim S4101x768 ![] bcast_S_S4101x768 main_cst
  let main_v9 : IVec S4101x768 1 := cmpf .olt main_v7 main_v8
  let main_c_3 : IVec S_ 1 := constantI S_ 1 1#1
  let main_v10 : IVec S_ 1 := (fun x v => Host.reduce IntOp.andi x v reducesTo_S4101x768_S_d0_1 h_S_) main_v9 main_c_3
  let main_v11 : IVec S_ 1 := andi main_v6 main_v10
  main_v11
-- ==== Kernel.lean ====
abbrev S1024x3x200 : Shape := ⟨3, ![1024, 3, 200]⟩
abbrev S4101x768 : Shape := ⟨2, ![4101, 768]⟩
abbrev S768 : Shape := ⟨1, ![768]⟩
abbrev S768x256 : Shape := ⟨2, ![768, 256]⟩
abbrev S256 : Shape := ⟨1, ![256]⟩
abbrev S3x1024x200 : Shape := ⟨3, ![3, 1024, 200]⟩
abbrev S3072x200 : Shape := ⟨2, ![3072, 200]⟩
abbrev S_ : Shape := ⟨0, ![]⟩
abbrev S5x768 : Shape := ⟨2, ![5, 768]⟩
abbrev S4096x768 : Shape := ⟨2, ![4096, 768]⟩
abbrev S123x768 : Shape := ⟨2, ![123, 768]⟩
abbrev S4224x768 : Shape := ⟨2, ![4224, 768]⟩
abbrev S3072x4224 : Shape := ⟨2, ![3072, 4224]⟩
abbrev S16x200 : Shape := ⟨2, ![16, 200]⟩
abbrev S16x4224 : Shape := ⟨2, ![16, 4224]⟩
abbrev S16 : Shape := ⟨1, ![16]⟩
abbrev S1x16 : Shape := ⟨2, ![1, 16]⟩
abbrev S1x768 : Shape := ⟨2, ![1, 768]⟩
abbrev S1x256 : Shape := ⟨2, ![1, 256]⟩
abbrev S3072x256 : Shape := ⟨2, ![3072, 256]⟩
abbrev S256x4224 : Shape := ⟨2, ![256, 4224]⟩
abbrev S256x256 : Shape := ⟨2, ![256, 256]⟩
abbrev S256x128 : Shape := ⟨2, ![256, 128]⟩
abbrev S256x1 : Shape := ⟨2, ![256, 1]⟩
abbrev S256x768 : Shape := ⟨2, ![256, 768]⟩
abbrev S1024x256 : Shape := ⟨2, ![1024, 256]⟩

abbrev nBuf : Table → Nat
  | .hbm => 24
  | .local .tc .vmem => 9
  | .local .scVector .vmem => 2
  | _ => 0

abbrev bufTy : (tb : Table) → Fin (nBuf tb) → BufTy
  | .hbm, ⟨0, _⟩ => ⟨S1024x3x200, .i32⟩
  | .hbm, ⟨1, _⟩ => ⟨S4101x768, .f32⟩
  | .hbm, ⟨2, _⟩ => ⟨S768, .f32⟩
  | .hbm, ⟨3, _⟩ => ⟨S768x256, .f32⟩
  | .hbm, ⟨4, _⟩ => ⟨S256, .f32⟩
  | .hbm, ⟨5, _⟩ => ⟨S3x1024x200, .i32⟩
  | .hbm, ⟨6, _⟩ => ⟨S3072x200, .i32⟩
  | .hbm, ⟨7, _⟩ => ⟨S_, .f32⟩
  | .hbm, ⟨8, _⟩ => ⟨S5x768, .f32⟩
  | .hbm, ⟨9, _⟩ => ⟨S4096x768, .f32⟩
  | .hbm, ⟨10, _⟩ => ⟨S_, .f32⟩
  | .hbm, ⟨11, _⟩ => ⟨S123x768, .f32⟩
  | .hbm, ⟨12, _⟩ => ⟨S4224x768, .f32⟩
  | .hbm, ⟨13, _⟩ => ⟨S4224x768, .bf16⟩
  | .hbm, ⟨14, _⟩ => ⟨S4224x768, .f32⟩
  | .hbm, ⟨15, _⟩ => ⟨S4224x768, .f32⟩
  | .hbm, ⟨16, _⟩ => ⟨S4224x768, .bf16⟩
  | .hbm, ⟨17, _⟩ => ⟨S3072x4224, .f32⟩
  | .hbm, ⟨18, _⟩ => ⟨S1x768, .f32⟩
  | .hbm, ⟨19, _⟩ => ⟨S1x256, .f32⟩
  | .hbm, ⟨20, _⟩ => ⟨S3072x256, .f32⟩
  | .hbm, ⟨21, _⟩ => ⟨S1024x256, .f32⟩
  | .hbm, ⟨22, _⟩ => ⟨S1024x256, .f32⟩
  | .hbm, ⟨23, _⟩ => ⟨S1024x256, .f32⟩
  | .local .tc .vmem, ⟨0, _⟩ => ⟨S256x4224, .f32⟩
  | .local .tc .vmem, ⟨1, _⟩ => ⟨S256x4224, .f32⟩
  | .local .tc .vmem, ⟨2, _⟩ => ⟨S4224x768, .bf16⟩
  | .local .tc .vmem, ⟨3, _⟩ => ⟨S4224x768, .bf16⟩
  | .local .tc .vmem, ⟨4, _⟩ => ⟨S1x768, .f32⟩
  | .local .tc .vmem, ⟨5, _⟩ => ⟨S768x256, .f32⟩
  | .local .tc .vmem, ⟨6, _⟩ => ⟨S1x256, .f32⟩
  | .local .tc .vmem, ⟨7, _⟩ => ⟨S256x256, .f32⟩
  | .local .tc .vmem, ⟨8, _⟩ => ⟨S256x256, .f32⟩
  | .local .scVector .vmem, ⟨0, _⟩ => ⟨S16x200, .i32⟩
  | .local .scVector .vmem, ⟨1, _⟩ => ⟨S16x4224, .f32⟩
  | _, _ => ⟨S1024x3x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v1_scv : Ref sig .scVector := ⟨.hbm, 6, rfl⟩
abbrev main_v10_scv : Ref sig .scVector := ⟨.hbm, 17, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg6_1 : Ref sig .tc := ⟨.vmem, 8, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem6_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c264_i32 : BitVec 32 := 264#32
  let v5 : BitVec 32 := Scalar.addi c0_i32_1 c264_i32
  let c1_i32 : BitVec 32 := 1#32
  ⟨c0_i32_1, v5, c1_i32⟩
def k0_off1 (k0_t1 : Fin k0_t1_loop.trips) : Fin 2 → Nat :=
  let c0_i32_82 : BitVec 32 := 0#32
  let v40 : Index := Scalar.indexCast c0_i32_82
  let c0_i32_1 : BitVec 32 := 0#32
  let c1_i32 : BitVec 32 := 1#32
  let arg6 : BitVec 32 := Scf.iv c0_i32_1 c1_i32 k0_t1
  let c16_i32 : BitVec 32 := 16#32
  let v39 : BitVec 32 := Scalar.muli arg6 c16_i32
  let v41 : Index := Scalar.indexCast v39
  ![0, v41.toNat]
@[reducible] def k0_t2_loop : Scf.Loop 32 :=
  let c0_i32_4 : BitVec 32 := 0#32
  let c264_i32_5 : BitVec 32 := 264#32
  let v7 : BitVec 32 := Scalar.addi c0_i32_4 c264_i32_5
  let c1_i32_6 : BitVec 32 := 1#32
  ⟨c0_i32_4, v7, c1_i32_6⟩
def k0_off2 (k0_t2 : Fin k0_t2_loop.trips) : Fin 2 → Nat :=
  let c1_i32_82 : BitVec 32 := 1#32
  let v40 : Index := Scalar.indexCast c1_i32_82
  let c0_i32_4 : BitVec 32 := 0#32
  let c1_i32_6 : BitVec 32 := 1#32
  let arg6 : BitVec 32 := Scf.iv c0_i32_4 c1_i32_6 k0_t2
  let c16_i32 : BitVec 32 := 16#32
  let v39 : BitVec 32 := Scalar.muli arg6 c16_i32
  let v41 : Index := Scalar.indexCast v39
  ![1, v41.toNat]
@[reducible] def k0_t3_loop : Scf.Loop 32 :=
  let c0_i32_9 : BitVec 32 := 0#32
  let c264_i32_10 : BitVec 32 := 264#32
  let v9 : BitVec 32 := Scalar.addi c0_i32_9 c264_i32_10
  let c1_i32_11 : BitVec 32 := 1#32
  ⟨c0_i32_9, v9, c1_i32_11⟩
def k0_off3 (k0_t3 : Fin k0_t3_loop.trips) : Fin 2 → Nat :=
  let c2_i32_82 : BitVec 32 := 2#32
  let v40 : Index := Scalar.indexCast c2_i32_82
  let c0_i32_9 : BitVec 32 := 0#32
  let c1_i32_11 : BitVec 32 := 1#32
  let arg6 : BitVec 32 := Scf.iv c0_i32_9 c1_i32_11 k0_t3
  let c16_i32 : BitVec 32 := 16#32
  let v39 : BitVec 32 := Scalar.muli arg6 c16_i32
  let v41 : Index := Scalar.indexCast v39
  ![2, v41.toNat]
@[reducible] def k0_t4_loop : Scf.Loop 32 :=
  let c0_i32_14 : BitVec 32 := 0#32
  let c264_i32_15 : BitVec 32 := 264#32
  let v11 : BitVec 32 := Scalar.addi c0_i32_14 c264_i32_15
  let c1_i32_16 : BitVec 32 := 1#32
  ⟨c0_i32_14, v11, c1_i32_16⟩
def k0_off4 (k0_t4 : Fin k0_t4_loop.trips) : Fin 2 → Nat :=
  let c3_i32 : BitVec 32 := 3#32
  let v40 : Index := Scalar.indexCast c3_i32
  let c0_i32_14 : BitVec 32 := 0#32
  let c1_i32_16 : BitVec 32 := 1#32
  let arg6 : BitVec 32 := Scf.iv c0_i32_14 c1_i32_16 k0_t4
  let c16_i32 : BitVec 32 := 16#32
  let v39 : BitVec 32 := Scalar.muli arg6 c16_i32
  let v41 : Index := Scalar.indexCast v39
  ![3, v41.toNat]
@[reducible] def k0_t5_loop : Scf.Loop 32 :=
  let c0_i32_19 : BitVec 32 := 0#32
  let c264_i32_20 : BitVec 32 := 264#32
  let v13 : BitVec 32 := Scalar.addi c0_i32_19 c264_i32_20
  let c1_i32_21 : BitVec 32 := 1#32
  ⟨c0_i32_19, v13, c1_i32_21⟩
def k0_off5 (k0_t5 : Fin k0_t5_loop.trips) : Fin 2 → Nat :=
  let c4_i32 : BitVec 32 := 4#32
  let v40 : Index := Scalar.indexCast c4_i32
  let c0_i32_19 : BitVec 32 := 0#32
  let c1_i32_21 : BitVec 32 := 1#32
  let arg6 : BitVec 32 := Scf.iv c0_i32_19 c1_i32_21 k0_t5
  let c16_i32 : BitVec 32 := 16#32
  let v39 : BitVec 32 := Scalar.muli arg6 c16_i32
  let v41 : Index := Scalar.indexCast v39
  ![4, v41.toNat]
@[reducible] def k0_t6_loop : Scf.Loop 32 :=
  let c0_i32_24 : BitVec 32 := 0#32
  let c264_i32_25 : BitVec 32 := 264#32
  let v15 : BitVec 32 := Scalar.addi c0_i32_24 c264_i32_25
  let c1_i32_26 : BitVec 32 := 1#32
  ⟨c0_i32_24, v15, c1_i32_26⟩
def k0_off6 (k0_t6 : Fin k0_t6_loop.trips) : Fin 2 → Nat :=
  let c5_i32 : BitVec 32 := 5#32
  let v40 : Index := Scalar.indexCast c5_i32
  let c0_i32_24 : BitVec 32 := 0#32
  let c1_i32_26 : BitVec 32 := 1#32
  let arg6 : BitVec 32 := Scf.iv c0_i32_24 c1_i32_26 k0_t6
  let c16_i32 : BitVec 32 := 16#32
  let v39 : BitVec 32 := Scalar.muli arg6 c16_i32
  let v41 : Index := Scalar.indexCast v39
  ![5, v41.toNat]
@[reducible] def k0_t7_loop : Scf.Loop 32 :=
  let c0_i32_29 : BitVec 32 := 0#32
  let c264_i32_30 : BitVec 32 := 264#32
  let v17 : BitVec 32 := Scalar.addi c0_i32_29 c264_i32_30
  let c1_i32_31 : BitVec 32 := 1#32
  ⟨c0_i32_29, v17, c1_i32_31⟩
def k0_off7 (k0_t7 : Fin k0_t7_loop.trips) : Fin 2 → Nat :=
  let c6_i32_82 : BitVec 32 := 6#32
  let v40 : Index := Scalar.indexCast c6_i32_82
  let c0_i32_29 : BitVec 32 := 0#32
  let c1_i32_31 : BitVec 32 := 1#32
  let arg6 : BitVec 32 := Scf.iv c0_i32_29 c1_i32_31 k0_t7
  let c16_i32 : BitVec 32 := 16#32
  let v39 : BitVec 32 := Scalar.muli arg6 c16_i32
  let v41 : Index := Scalar.indexCast v39
  ![6, v41.toNat]
@[reducible] def k0_t8_loop : Scf.Loop 32 :=
  let c0_i32_34 : BitVec 32 := 0#32
  let c264_i32_35 : BitVec 32 := 264#32
  let v19 : BitVec 32 := Scalar.addi c0_i32_34 c264_i32_35
  let c1_i32_36 : BitVec 32 := 1#32
  ⟨c0_i32_34, v19, c1_i32_36⟩
def k0_off8 (k0_t8 : Fin k0_t8_loop.trips) : Fin 2 → Nat :=
  let c7_i32 : BitVec 32 := 7#32
  let v40 : Index := Scalar.indexCast c7_i32
  let c0_i32_34 : BitVec 32 := 0#32
  let c1_i32_36 : BitVec 32 := 1#32
  let arg6 : BitVec 32 := Scf.iv c0_i32_34 c1_i32_36 k0_t8
  let c16_i32 : BitVec 32 := 16#32
  let v39 : BitVec 32 := Scalar.muli arg6 c16_i32
  let v41 : Index := Scalar.indexCast v39
  ![7, v41.toNat]
@[reducible] def k0_t9_loop : Scf.Loop 32 :=
  let c0_i32_39 : BitVec 32 := 0#32
  let c264_i32_40 : BitVec 32 := 264#32
  let v21 : BitVec 32 := Scalar.addi c0_i32_39 c264_i32_40
  let c1_i32_41 : BitVec 32 := 1#32
  ⟨c0_i32_39, v21, c1_i32_41⟩
def k0_off9 (k0_t9 : Fin k0_t9_loop.trips) : Fin 2 → Nat :=
  let c8_i32 : BitVec 32 := 8#32
  let v40 : Index := Scalar.indexCast c8_i32
  let c0_i32_39 : BitVec 32 := 0#32
  let c1_i32_41 : BitVec 32 := 1#32
  let arg6 : BitVec 32 := Scf.iv c0_i32_39 c1_i32_41 k0_t9
  let c16_i32 : BitVec 32 := 16#32
  let v39 : BitVec 32 := Scalar.muli arg6 c16_i32
  let v41 : Index := Scalar.indexCast v39
  ![8, v41.toNat]
@[reducible] def k0_t10_loop : Scf.Loop 32 :=
  let c0_i32_44 : BitVec 32 := 0#32
  let c264_i32_45 : BitVec 32 := 264#32
  let v23 : BitVec 32 := Scalar.addi c0_i32_44 c264_i32_45
  let c1_i32_46 : BitVec 32 := 1#32
  ⟨c0_i32_44, v23, c1_i32_46⟩
def k0_off10 (k0_t10 : Fin k0_t10_loop.trips) : Fin 2 → Nat :=
  let c9_i32 : BitVec 32 := 9#32
  let v40 : Index := Scalar.indexCast c9_i32
  let c0_i32_44 : BitVec 32 := 0#32
  let c1_i32_46 : BitVec 32 := 1#32
  let arg6 : BitVec 32 := Scf.iv c0_i32_44 c1_i32_46 k0_t10
  let c16_i32 : BitVec 32 := 16#32
  let v39 : BitVec 32 := Scalar.muli arg6 c16_i32
  let v41 : Index := Scalar.indexCast v39
  ![9, v41.toNat]
@[reducible] def k0_t11_loop : Scf.Loop 32 :=
  let c0_i32_49 : BitVec 32 := 0#32
  let c264_i32_50 : BitVec 32 := 264#32
  let v25 : BitVec 32 := Scalar.addi c0_i32_49 c264_i32_50
  let c1_i32_51 : BitVec 32 := 1#32
  ⟨c0_i32_49, v25, c1_i32_51⟩
def k0_off11 (k0_t11 : Fin k0_t11_loop.trips) : Fin 2 → Nat :=
  let c10_i32 : BitVec 32 := 10#32
  let v40 : Index := Scalar.indexCast c10_i32
  let c0_i32_49 : BitVec 32 := 0#32
  let c1_i32_51 : BitVec 32 := 1#32
  let arg6 : BitVec 32 := Scf.iv c0_i32_49 c1_i32_51 k0_t11
  let c16_i32 : BitVec 32 := 16#32
  let v39 : BitVec 32 := Scalar.muli arg6 c16_i32
  let v41 : Index := Scalar.indexCast v39
  ![10, v41.toNat]
@[reducible] def k0_t12_loop : Scf.Loop 32 :=
  let c0_i32_54 : BitVec 32 := 0#32
  let c264_i32_55 : BitVec 32 := 264#32
  let v27 : BitVec 32 := Scalar.addi c0_i32_54 c264_i32_55
  let c1_i32_56 : BitVec 32 := 1#32
  ⟨c0_i32_54, v27, c1_i32_56⟩
def k0_off12 (k0_t12 : Fin k0_t12_loop.trips) : Fin 2 → Nat :=
  let c11_i32 : BitVec 32 := 11#32
  let v40 : Index := Scalar.indexCast c11_i32
  let c0_i32_54 : BitVec 32 := 0#32
  let c1_i32_56 : BitVec 32 := 1#32
  let arg6 : BitVec 32 := Scf.iv c0_i32_54 c1_i32_56 k0_t12
  let c16_i32 : BitVec 32 := 16#32
  let v39 : BitVec 32 := Scalar.muli arg6 c16_i32
  let v41 : Index := Scalar.indexCast v39
  ![11, v41.toNat]
@[reducible] def k0_t13_loop : Scf.Loop 32 :=
  let c0_i32_59 : BitVec 32 := 0#32
  let c264_i32_60 : BitVec 32 := 264#32
  let v29 : BitVec 32 := Scalar.addi c0_i32_59 c264_i32_60
  let c1_i32_61 : BitVec 32 := 1#32
  ⟨c0_i32_59, v29, c1_i32_61⟩
def k0_off13 (k0_t13 : Fin k0_t13_loop.trips) : Fin 2 → Nat :=
  let c12_i32 : BitVec 32 := 12#32
  let v40 : Index := Scalar.indexCast c12_i32
  let c0_i32_59 : BitVec 32 := 0#32
  let c1_i32_61 : BitVec 32 := 1#32
  let arg6 : BitVec 32 := Scf.iv c0_i32_59 c1_i32_61 k0_t13
  let c16_i32 : BitVec 32 := 16#32
  let v39 : BitVec 32 := Scalar.muli arg6 c16_i32
  let v41 : Index := Scalar.indexCast v39
  ![12, v41.toNat]
@[reducible] def k0_t14_loop : Scf.Loop 32 :=
  let c0_i32_64 : BitVec 32 := 0#32
  let c264_i32_65 : BitVec 32 := 264#32
  let v31 : BitVec 32 := Scalar.addi c0_i32_64 c264_i32_65
  let c1_i32_66 : BitVec 32 := 1#32
  ⟨c0_i32_64, v31, c1_i32_66⟩
def k0_off14 (k0_t14 : Fin k0_t14_loop.trips) : Fin 2 → Nat :=
  let c13_i32 : BitVec 32 := 13#32
  let v40 : Index := Scalar.indexCast c13_i32
  let c0_i32_64 : BitVec 32 := 0#32
  let c1_i32_66 : BitVec 32 := 1#32
  let arg6 : BitVec 32 := Scf.iv c0_i32_64 c1_i32_66 k0_t14
  let c16_i32 : BitVec 32 := 16#32
  let v39 : BitVec 32 := Scalar.muli arg6 c16_i32
  let v41 : Index := Scalar.indexCast v39
  ![13, v41.toNat]
@[reducible] def k0_t15_loop : Scf.Loop 32 :=
  let c0_i32_69 : BitVec 32 := 0#32
  let c264_i32_70 : BitVec 32 := 264#32
  let v33 : BitVec 32 := Scalar.addi c0_i32_69 c264_i32_70
  let c1_i32_71 : BitVec 32 := 1#32
  ⟨c0_i32_69, v33, c1_i32_71⟩
def k0_off15 (k0_t15 : Fin k0_t15_loop.trips) : Fin 2 → Nat :=
  let c14_i32 : BitVec 32 := 14#32
  let v40 : Index := Scalar.indexCast c14_i32
  let c0_i32_69 : BitVec 32 := 0#32
  let c1_i32_71 : BitVec 32 := 1#32
  let arg6 : BitVec 32 := Scf.iv c0_i32_69 c1_i32_71 k0_t15
  let c16_i32 : BitVec 32 := 16#32
  let v39 : BitVec 32 := Scalar.muli arg6 c16_i32
  let v41 : Index := Scalar.indexCast v39
  ![14, v41.toNat]
@[reducible] def k0_t16_loop : Scf.Loop 32 :=
  let c0_i32_74 : BitVec 32 := 0#32
  let c264_i32_75 : BitVec 32 := 264#32
  let v35 : BitVec 32 := Scalar.addi c0_i32_74 c264_i32_75
  let c1_i32_76 : BitVec 32 := 1#32
  ⟨c0_i32_74, v35, c1_i32_76⟩
def k0_off16 (k0_t16 : Fin k0_t16_loop.trips) : Fin 2 → Nat :=
  let c15_i32 : BitVec 32 := 15#32
  let v40 : Index := Scalar.indexCast c15_i32
  let c0_i32_74 : BitVec 32 := 0#32
  let c1_i32_76 : BitVec 32 := 1#32
  let arg6 : BitVec 32 := Scf.iv c0_i32_74 c1_i32_76 k0_t16
  let c16_i32 : BitVec 32 := 16#32
  let v39 : BitVec 32 := Scalar.muli arg6 c16_i32
  let v41 : Index := Scalar.indexCast v39
  ![15, v41.toNat]
@[reducible] def k0_t17_loop : Scf.Loop 32 :=
  let c0_i32_79 : BitVec 32 := 0#32
  let c6_i32 : BitVec 32 := 6#32
  let v37 : BitVec 32 := Scalar.addi c0_i32_79 c6_i32
  let c1_i32_80 : BitVec 32 := 1#32
  ⟨c0_i32_79, v37, c1_i32_80⟩
def k0_off17 (i : grid0.Coords) (k0_t17 : Fin k0_t17_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_82 : BitVec 32 := 6#32
  let v39 : BitVec 32 := Scalar.muli v1 c6_i32_82
  let c0_i32_79 : BitVec 32 := 0#32
  let c1_i32_80 : BitVec 32 := 1#32
  let arg6 : BitVec 32 := Scf.iv c0_i32_79 c1_i32_80 k0_t17
  let v40 : BitVec 32 := Scalar.addi v39 arg6
  let c16_i32 : BitVec 32 := 16#32
  let v41 : BitVec 32 := Scalar.muli v40 c16_i32
  let c0_i32_93_r0 : BitVec 32 := 0#32
  ![v41.toNat, 0]
@[reducible] def k0_t18_loop : Scf.Loop 32 :=
  let c0_i32_84 : BitVec 32 := 0#32
  let c200_i32 : BitVec 32 := 200#32
  let v42 : BitVec 32 := Scalar.addi c0_i32_84 c200_i32
  let c1_i32_85 : BitVec 32 := 1#32
  ⟨c0_i32_84, v42, c1_i32_85⟩

def k0_chk1 (v2 : IVec S16 32) (v46 : IVec S16 32) : Prop :=
  (∀ a x, ((![v2, v46] : Fin 2 → IVec S16 32) a x).toNat < S16x200.size a)
theorem k0_idx1_inb : ∀ (v2 : IVec S16 32) (v46 : IVec S16 32) (k0_hw1 : k0_chk1 v2 v46), ∀ a x, ((![v2, v46] : Fin 2 → IVec S16 32) a x).toNat < S16x200.size a := fun v2 v46 k0_hw1 => k0_hw1

def k0_chk2 (v2 : IVec S16 32) (v47 : IVec S16 32) : Prop :=
  (∀ a x, ((![v2, v47] : Fin 2 → IVec S16 32) a x).toNat < S16x4224.size a)
theorem k0_idx2_inb : ∀ (v2 : IVec S16 32) (v47 : IVec S16 32) (k0_hw2 : k0_chk2 v2 v47), ∀ a x, ((![v2, v47] : Fin 2 → IVec S16 32) a x).toNat < S16x4224.size a := fun v2 v47 k0_hw2 => k0_hw2
def k0_off18 (i : grid0.Coords) (k0_t17 : Fin k0_t17_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_82 : BitVec 32 := 6#32
  let v39 : BitVec 32 := Scalar.muli v1 c6_i32_82
  let c0_i32_79 : BitVec 32 := 0#32
  let c1_i32_80 : BitVec 32 := 1#32
  let arg6 : BitVec 32 := Scf.iv c0_i32_79 c1_i32_80 k0_t17
  let v40 : BitVec 32 := Scalar.addi v39 arg6
  let c16_i32 : BitVec 32 := 16#32
  let v41 : BitVec 32 := Scalar.muli v40 c16_i32
  let c0_i32_93_r1 : BitVec 32 := 0#32
  ![v41.toNat, 0]
@[reducible] def k0_t19_loop : Scf.Loop 32 :=
  let c0_i32_88 : BitVec 32 := 0#32
  let c200_i32_89 : BitVec 32 := 200#32
  let v44 : BitVec 32 := Scalar.addi c0_i32_88 c200_i32_89
  let c1_i32_90 : BitVec 32 := 1#32
  ⟨c0_i32_88, v44, c1_i32_90⟩

def k0_chk3 (v2 : IVec S16 32) (v46 : IVec S16 32) : Prop :=
  (∀ a x, ((![v2, v46] : Fin 2 → IVec S16 32) a x).toNat < S16x200.size a)
theorem k0_idx3_inb : ∀ (v2 : IVec S16 32) (v46 : IVec S16 32) (k0_hw3 : k0_chk3 v2 v46), ∀ a x, ((![v2, v46] : Fin 2 → IVec S16 32) a x).toNat < S16x200.size a := fun v2 v46 k0_hw3 => k0_hw3

def k0_chk4 (v2 : IVec S16 32) (v47 : IVec S16 32) : Prop :=
  (∀ a x, ((![v2, v47] : Fin 2 → IVec S16 32) a x).toNat < S16x4224.size a)
theorem k0_idx4_inb : ∀ (v2 : IVec S16 32) (v47 : IVec S16 32) (k0_hw4 : k0_chk4 v2 v47), ∀ a x, ((![v2, v47] : Fin 2 → IVec S16 32) a x).toNat < S16x4224.size a := fun v2 v47 k0_hw4 => k0_hw4
abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4224 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4224x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4224x768 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S768x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x3x200 : Shape := ⟨3, ![1024, 3, 200]⟩
abbrev S4101x768 : Shape := ⟨2, ![4101, 768]⟩
abbrev S768 : Shape := ⟨1, ![768]⟩
abbrev S768x256 : Shape := ⟨2, ![768, 256]⟩
abbrev S256 : Shape := ⟨1, ![256]⟩
abbrev S1024x1x200 : Shape := ⟨3, ![1024, 1, 200]⟩
abbrev S1024x200 : Shape := ⟨2, ![1024, 200]⟩
abbrev S4101 : Shape := ⟨1, ![4101]⟩
abbrev S1024x200x1 : Shape := ⟨3, ![1024, 200, 1]⟩
abbrev S1x1x4101 : Shape := ⟨3, ![1, 1, 4101]⟩
abbrev S1024x200x4101 : Shape := ⟨3, ![1024, 200, 4101]⟩
abbrev S_ : Shape := ⟨0, ![]⟩
abbrev S1024x4101 : Shape := ⟨2, ![1024, 4101]⟩
abbrev S1x4101 : Shape := ⟨2, ![1, 4101]⟩
abbrev S1024 : Shape := ⟨1, ![1024]⟩
abbrev S1024x1 : Shape := ⟨2, ![1024, 1]⟩
abbrev S1024x768 : Shape := ⟨2, ![1024, 768]⟩
abbrev S1x768 : Shape := ⟨2, ![1, 768]⟩
abbrev S1024x256 : Shape := ⟨2, ![1024, 256]⟩
abbrev S1x256 : Shape := ⟨2, ![1, 256]⟩

abbrev nBuf : Space → Nat
  | .hbm => 146
  | .vmem => 0
  | .smem => 0
  | _ => 0

abbrev hbmTy0_0 (i : Nat) : BufTy := match i % 128 with
  | 0 => ⟨S1024x3x200, .i32⟩
  | 1 => ⟨S4101x768, .f32⟩
  | 2 => ⟨S768, .f32⟩
  | 3 => ⟨S768x256, .f32⟩
  | 4 => ⟨S256, .f32⟩
  | 5 => ⟨S1024x1x200, .i32⟩
  | 6 => ⟨S1024x200, .i32⟩
  | 7 => ⟨S4101, .i32⟩
  | 8 => ⟨S1024x200x1, .i32⟩
  | 9 => ⟨S1x1x4101, .i32⟩
  | 10 => ⟨S1024x200x4101, .i32⟩
  | 11 => ⟨S1024x200x4101, .i32⟩
  | 12 => ⟨S1024x200x4101, .i1⟩
  | 13 => ⟨S_, .f32⟩
  | 14 => ⟨S_, .f32⟩
  | 15 => ⟨S1024x200x4101, .f32⟩
  | 16 => ⟨S1024x200x4101, .f32⟩
  | 17 => ⟨S1024x200x4101, .f32⟩
  | 18 => ⟨S1024x200x4101, .f32⟩
  | 19 => ⟨S_, .f32⟩
  | 20 => ⟨S1024x4101, .f32⟩
  | 21 => ⟨S1x4101, .i32⟩
  | 22 => ⟨S_, .i32⟩
  | 23 => ⟨S1x4101, .i32⟩
  | 24 => ⟨S1x4101, .i1⟩
  | 25 => ⟨S_, .f32⟩
  | 26 => ⟨S_, .f32⟩
  | 27 => ⟨S1024x4101, .i1⟩
  | 28 => ⟨S1024x4101, .f32⟩
  | 29 => ⟨S1024x4101, .f32⟩
  | 30 => ⟨S_, .f32⟩
  | 31 => ⟨S1024, .f32⟩
  | 32 => ⟨S1024x1, .f32⟩
  | 33 => ⟨S_, .f32⟩
  | 34 => ⟨S1024x1, .f32⟩
  | 35 => ⟨S1024x1, .f32⟩
  | 36 => ⟨S_, .f32⟩
  | 37 => ⟨S1024x1, .f32⟩
  | 38 => ⟨S1024x1, .f32⟩
  | 39 => ⟨S1024x4101, .f32⟩
  | 40 => ⟨S1024x4101, .f32⟩
  | 41 => ⟨S1024x768, .f32⟩
  | 42 => ⟨S1x768, .f32⟩
  | 43 => ⟨S1024x768, .f32⟩
  | 44 => ⟨S1024x768, .f32⟩
  | 45 => ⟨S_, .f32⟩
  | 46 => ⟨S1024x768, .f32⟩
  | 47 => ⟨S1024x768, .f32⟩
  | 48 => ⟨S1024x256, .f32⟩
  | 49 => ⟨S1x256, .f32⟩
  | 50 => ⟨S1024x256, .f32⟩
  | 51 => ⟨S1024x256, .f32⟩
  | 52 => ⟨S1024x1x200, .i32⟩
  | 53 => ⟨S1024x200, .i32⟩
  | 54 => ⟨S4101, .i32⟩
  | 55 => ⟨S1024x200x1, .i32⟩
  | 56 => ⟨S1x1x4101, .i32⟩
  | 57 => ⟨S1024x200x4101, .i32⟩
  | 58 => ⟨S1024x200x4101, .i32⟩
  | 59 => ⟨S1024x200x4101, .i1⟩
  | 60 => ⟨S_, .f32⟩
  | 61 => ⟨S_, .f32⟩
  | 62 => ⟨S1024x200x4101, .f32⟩
  | 63 => ⟨S1024x200x4101, .f32⟩
  | 64 => ⟨S1024x200x4101, .f32⟩
  | 65 => ⟨S1024x200x4101, .f32⟩
  | 66 => ⟨S_, .f32⟩
  | 67 => ⟨S1024x4101, .f32⟩
  | 68 => ⟨S1x4101, .i32⟩
  | 69 => ⟨S_, .i32⟩
  | 70 => ⟨S1x4101, .i32⟩
  | 71 => ⟨S1x4101, .i1⟩
  | 72 => ⟨S_, .f32⟩
  | 73 => ⟨S_, .f32⟩
  | 74 => ⟨S1024x4101, .i1⟩
  | 75 => ⟨S1024x4101, .f32⟩
  | 76 => ⟨S1024x4101, .f32⟩
  | 77 => ⟨S_, .f32⟩
  | 78 => ⟨S1024, .f32⟩
  | 79 => ⟨S1024x1, .f32⟩
  | 80 => ⟨S_, .f32⟩
  | 81 => ⟨S1024x1, .f32⟩
  | 82 => ⟨S1024x1, .f32⟩
  | 83 => ⟨S_, .f32⟩
  | 84 => ⟨S1024x1, .f32⟩
  | 85 => ⟨S1024x1, .f32⟩
  | 86 => ⟨S1024x4101, .f32⟩
  | 87 => ⟨S1024x4101, .f32⟩
  | 88 => ⟨S1024x768, .f32⟩
  | 89 => ⟨S1x768, .f32⟩
  | 90 => ⟨S1024x768, .f32⟩
  | 91 => ⟨S1024x768, .f32⟩
  | 92 => ⟨S_, .f32⟩
  | 93 => ⟨S1024x768, .f32⟩
  | 94 => ⟨S1024x768, .f32⟩
  | 95 => ⟨S1024x256, .f32⟩
  | 96 => ⟨S1x256, .f32⟩
  | 97 => ⟨S1024x256, .f32⟩
  | 98 => ⟨S1024x256, .f32⟩
  | 99 => ⟨S1024x1x200, .i32⟩
  | 100 => ⟨S1024x200, .i32⟩
  | 101 => ⟨S4101, .i32⟩
  | 102 => ⟨S1024x200x1, .i32⟩
  | 103 => ⟨S1x1x4101, .i32⟩
  | 104 => ⟨S1024x200x4101, .i32⟩
  | 105 => ⟨S1024x200x4101, .i32⟩
  | 106 => ⟨S1024x200x4101, .i1⟩
  | 107 => ⟨S_, .f32⟩
  | 108 => ⟨S_, .f32⟩
  | 109 => ⟨S1024x200x4101, .f32⟩
  | 110 => ⟨S1024x200x4101, .f32⟩
  | 111 => ⟨S1024x200x4101, .f32⟩
  | 112 => ⟨S1024x200x4101, .f32⟩
  | 113 => ⟨S_, .f32⟩
  | 114 => ⟨S1024x4101, .f32⟩
  | 115 => ⟨S1x4101, .i32⟩
  | 116 => ⟨S_, .i32⟩
  | 117 => ⟨S1x4101, .i32⟩
  | 118 => ⟨S1x4101, .i1⟩
  | 119 => ⟨S_, .f32⟩
  | 120 => ⟨S_, .f32⟩
  | 121 => ⟨S1024x4101, .i1⟩
  | 122 => ⟨S1024x4101, .f32⟩
  | 123 => ⟨S1024x4101, .f32⟩
  | 124 => ⟨S_, .f32⟩
  | 125 => ⟨S1024, .f32⟩
  | 126 => ⟨S1024x1, .f32⟩
  | 127 => ⟨S_, .f32⟩
  | _ => ⟨S1024x3x200, .i32⟩

abbrev hbmTy0_1 (i : Nat) : BufTy := match i % 128 with
  | 0 => ⟨S1024x1, .f32⟩
  | 1 => ⟨S1024x1, .f32⟩
  | 2 => ⟨S_, .f32⟩
  | 3 => ⟨S1024x1, .f32⟩
  | 4 => ⟨S1024x1, .f32⟩
  | 5 => ⟨S1024x4101, .f32⟩
  | 6 => ⟨S1024x4101, .f32⟩
  | 7 => ⟨S1024x768, .f32⟩
  | 8 => ⟨S1x768, .f32⟩
  | 9 => ⟨S1024x768, .f32⟩
  | 10 => ⟨S1024x768, .f32⟩
  | 11 => ⟨S_, .f32⟩
  | 12 => ⟨S1024x768, .f32⟩
  | 13 => ⟨S1024x768, .f32⟩
  | 14 => ⟨S1024x256, .f32⟩
  | 15 => ⟨S1x256, .f32⟩
  | 16 => ⟨S1024x256, .f32⟩
  | 17 => ⟨S1024x256, .f32⟩
  | _ => ⟨S1024x3x200, .i32⟩

abbrev hbmTy (i : Nat) : BufTy := match i / 128 with
  | 0 => hbmTy0_0 i
  | 1 => hbmTy0_1 i
  | _ => ⟨S1024x3x200, .i32⟩

abbrev bufTy : (tb : Table) → Fin (tcTables nBuf tb) → BufTy
  | .hbm, ⟨i, _⟩ => hbmTy i
  | _, _ => ⟨S1024x3x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_cst_8 : Ref sig .tc := ⟨.hbm, 61, rfl⟩
abbrev main_call2_v0 : Ref sig .tc := ⟨.hbm, 62, rfl⟩
abbrev main_call2_v1 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_cst_11 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v47 : Ref sig .tc := ⟨.hbm, 76, rfl⟩
abbrev main_cst_12 : Ref sig .tc := ⟨.hbm, 77, rfl⟩
abbrev main_v48 : Ref sig .tc := ⟨.hbm, 78, rfl⟩
abbrev main_v49 : Ref sig .tc := ⟨.hbm, 79, rfl⟩
abbrev main_cst_13 : Ref sig .tc := ⟨.hbm, 80, rfl⟩
abbrev main_v50 : Ref sig .tc := ⟨.hbm, 81, rfl⟩
abbrev main_v51 : Ref sig .tc := ⟨.hbm, 82, rfl⟩
abbrev main_cst_14 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_15 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_16 : Ref sig .tc := ⟨.hbm, 107, rfl⟩
abbrev main_cst_17 : Ref sig .tc := ⟨.hbm, 108, rfl⟩
abbrev main_call4_v0 : Ref sig .tc := ⟨.hbm, 109, rfl⟩
abbrev main_call4_v1 : Ref sig .tc := ⟨.hbm, 110, rfl⟩
abbrev main_v74 : Ref sig .tc := ⟨.hbm, 111, rfl⟩
abbrev main_v75 : Ref sig .tc := ⟨.hbm, 112, rfl⟩
abbrev main_cst_18 : Ref sig .tc := ⟨.hbm, 113, rfl⟩
abbrev main_v76 : Ref sig .tc := ⟨.hbm, 114, rfl⟩
abbrev main_v77 : Ref sig .tc := ⟨.hbm, 115, rfl⟩
abbrev main_c_19 : Ref sig .tc := ⟨.hbm, 116, rfl⟩
abbrev main_v78 : Ref sig .tc := ⟨.hbm, 117, rfl⟩
abbrev main_v79 : Ref sig .tc := ⟨.hbm, 118, rfl⟩
abbrev main_cst_20 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v80 : Ref sig .tc := ⟨.hbm, 123, rfl⟩
abbrev main_cst_21 : Ref sig .tc := ⟨.hbm, 124, rfl⟩
abbrev main_v81 : Ref sig .tc := ⟨.hbm, 125, rfl⟩
abbrev main_v82 : Ref sig .tc := ⟨.hbm, 126, rfl⟩
abbrev main_cst_22 : Ref sig .tc := ⟨.hbm, 127, rfl⟩
abbrev main_v83 : Ref sig .tc := ⟨.hbm, 128, rfl⟩
abbrev main_v84 : Ref sig .tc := ⟨.hbm, 129, rfl⟩
abbrev main_cst_23 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_24 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩

abbrev nD : Nat := 1
abbrev τ : Topo := Topo.v7x

variable {F : FTy → Type} [FloatOps F]
-- ==== Proof.Hist.lean ====
/-
  Histograms of token rows, over any float instance: how often a value occurs among a row's first entries, that
  count as the float word repeated addition of one reaches, and what one scatter of sixteen lanes into a
  sixteen-row table does when lane `r` writes into row `r`.
-/
module

public import Idealize.ShloMosaic.PureOps
public import Idealize.ShloMosaic.Lib.Tactic

@[expose] public section

noncomputable section

namespace Cert.Hist

open Idealize.ShloMosaic

/-- A block of sixteen token rows, each of 200 entries. -/
abbrev Toks : Shape := ⟨2, ![16, 200]⟩
/-- A block of sixteen histogram rows, each of 4224 bins. -/
abbrev Bins : Shape := ⟨2, ![16, 4224]⟩
/-- One vector register's lanes. -/
abbrev Lanes : Shape := ⟨1, ![16]⟩

/-- How many of the row's first `n` entries are the value `v`. -/
def cnt (tok : Fin 200 → BitVec 32) (n v : ℕ) : ℕ :=
  (Finset.univ.filter fun l : Fin 200 => l.val < n ∧ (tok l).toNat = v).card

/-- Whether one of the row's first `n` entries is the value `v`. -/
def seen (tok : Fin 200 → BitVec 32) (n v : ℕ) : Prop := ∃ l : Fin 200, l.val < n ∧ (tok l).toNat = v

theorem cnt_zero (tok : Fin 200 → BitVec 32) (v : ℕ) : cnt tok 0 v = 0 := by simp [cnt]

/-- One more entry adds one to its own value's count and nothing to any other. -/
theorem cnt_succ (tok : Fin 200 → BitVec 32) (n : Fin 200) (v : ℕ) :
    cnt tok (n.val + 1) v = if (tok n).toNat = v then cnt tok n.val v + 1 else cnt tok n.val v := by
  unfold cnt
  split
  · rename_i h
    rw [← Finset.card_insert_of_notMem (a := n) (by simp)]
    congr 1; ext l
    simp only [Finset.mem_filter, Finset.mem_univ, true_and, Finset.mem_insert, Nat.lt_succ_iff_lt_or_eq]
    constructor
    · rintro ⟨h1 | h1, h2⟩
      · exact .inr ⟨h1, h2⟩
      · exact .inl (Fin.ext h1)
    · rintro (rfl | ⟨h1, h2⟩)
      · exact ⟨.inr rfl, h⟩
      · exact ⟨.inl h1, h2⟩
  · rename_i h
    congr 1; ext l
    simp only [Finset.mem_filter, Finset.mem_univ, true_and, Nat.lt_succ_iff_lt_or_eq]
    constructor
    · rintro ⟨h1 | h1, h2⟩
      · exact ⟨h1, h2⟩
      · exact absurd ((Fin.ext h1 : l = n) ▸ h2) h
    · rintro ⟨h1, h2⟩
      exact ⟨.inl h1, h2⟩

theorem seen_zero (tok : Fin 200 → BitVec 32) (v : ℕ) : ¬seen tok 0 v := by simp [seen]

/-- One more entry makes its own value seen. -/
theorem seen_succ (tok : Fin 200 → BitVec 32) (n : Fin 200) (v : ℕ) :
    seen tok (n.val + 1) v ↔ (tok n).toNat = v ∨ seen tok n.val v := by
  unfold seen
  constructor
  · rintro ⟨l, h1, h2⟩
    rcases Nat.lt_succ_iff_lt_or_eq.mp h1 with h | h
    · exact .inr ⟨l, h, h2⟩
    · exact .inl ((Fin.ext h : l = n) ▸ h2)
  · rintro (h | ⟨l, h1, h2⟩)
    · exact ⟨n, Nat.lt_succ_self _, h⟩
    · exact ⟨l, Nat.lt_succ_of_lt h1, h2⟩

/-- A value no entry of the row is has count zero. -/
theorem cnt_eq_zero_of_not_seen (tok : Fin 200 → BitVec 32) (n v : ℕ) (h : ¬seen tok n v) : cnt tok n v = 0 := by
  unfold cnt; rw [Finset.card_eq_zero, Finset.filter_eq_empty_iff]
  exact fun l _ hl => h ⟨l, hl⟩

variable {F : FTy → Type} [FloatOps F]

/-- The zero word of a histogram bin. -/
abbrev zeroF : F .f32 := Scalar.ofBits .f32 0x00000000#32
/-- The word a scatter adds. -/
abbrev oneF : F .f32 := Scalar.ofBits .f32 0x3F800000#32

/-- The word a bin holds after `n` additions of one to zero. -/
def cntF : ℕ → F .f32
  | 0 => zeroF
  | n + 1 => FloatOps.idxAddf (cntF n) oneF

/-- An index of a rank-two shape, from its coordinates. -/
def ix2 (n m : ℕ) (a : Fin n) (b : Fin m) : (⟨2, ![n, m]⟩ : Shape).Idx := Fin.cons a (Fin.cons b finZeroElim)

/-- Row `r` of a block of token rows. -/
def rowOf (t : Vec F Toks .i32) (r : Fin 16) : Fin 200 → BitVec 32 := fun l => t (ix2 16 200 r l)

/-- The row of a bin. -/
def binRow (j : Bins.Idx) : Fin 16 := j 0
/-- The value a bin counts. -/
def binCol (j : Bins.Idx) : ℕ := (j 1).val

/-- The histogram of a block of token rows after each row's first `n` entries. -/
def histAt (t : Vec F Toks .i32) (n : ℕ) : Vec F Bins .f32 := fun j => cntF (cnt (rowOf t (binRow j)) n (binCol j))

open Classical in
/-- The full histogram of a block of token rows, with the bins of each row's first `n` entries cleared again. -/
def clearAt (t : Vec F Toks .i32) (n : ℕ) : Vec F Bins .f32 :=
  fun j => if seen (rowOf t (binRow j)) n (binCol j) then zeroF else cntF (cnt (rowOf t (binRow j)) 200 (binCol j))

/-- The empty histogram. -/
def zeroBins : Vec F Bins .f32 := fun _ => zeroF

theorem histAt_zero (t : Vec F Toks .i32) : histAt t 0 = zeroBins := by
  funext j; simp [histAt, cnt_zero, cntF, zeroBins]

theorem clearAt_zero (t : Vec F Toks .i32) : clearAt t 0 = histAt t 200 := by
  funext j; simp [clearAt, histAt, seen_zero]

theorem clearAt_all (t : Vec F Toks .i32) : clearAt t 200 = zeroBins := by
  funext j; unfold clearAt zeroBins; split
  · rfl
  · rename_i h; rw [cnt_eq_zero_of_not_seen _ _ _ h]; rfl

/-- The lane that writes row `r`. -/
abbrev laneOf (r : Fin 16) : Lanes.Idx := fun a => r.cast (congrArg ![16] (Fin.eq_zero a).symm)

/-- A scatter whose lane `r` writes into row `r`, every lane active, changes in each row the one bin its lane
    names: onto what was there when it adds, over it when it does not. -/
theorem storeIdx_rows (f : Vec F Bins .f32) (idxs : Fin 2 → IVec Lanes 32) (w : F .f32) (add : Bool)
    (h : ∀ a x, (idxs a x).toNat < Bins.size a) (hrow : ∀ r : Fin 16, (idxs 0 (laneOf r)).toNat = r.val) (j : Bins.Idx) :
    storeIdx (s := Bins) f idxs (fun _ => w) (fun _ => 1#1) add h j
      = if (idxs 1 (laneOf (binRow j))).toNat = (binCol j) then (if add then FloatOps.idxAddf (f j) w else w) else f j := by
  have key : ∀ (l : List (Fin 16)) (g : Vec F Bins .f32), l.Nodup →
      (l.foldl (fun (g : Vec F Bins .f32) k => fun j' : Bins.Idx =>
        if (∀ a, (j' a).val = (idxAt idxs h (laneOf k) a).val) then
          (if add then FloatOps.idxAddf (g (idxAt idxs h (laneOf k))) w else w) else g j') g) j
      = if (binRow j) ∈ l ∧ (idxs 1 (laneOf (binRow j))).toNat = (binCol j) then
          (if add then FloatOps.idxAddf (g j) w else w) else g j := by
    intro l
    induction l with
    | nil => intro g _; simp
    | cons k l ih =>
      intro g hl
      rw [List.foldl_cons, ih _ (List.nodup_cons.mp hl).2]
      have hk := (List.nodup_cons.mp hl).1
      by_cases hj : (binRow j) = k
      · have hn : ¬((binRow j) ∈ l) := by rw [hj]; exact hk
        rw [if_neg (fun hc => hn hc.1)]
        by_cases hc : (idxs 1 (laneOf (binRow j))).toNat = (binCol j)
        · have hat : idxAt idxs h (laneOf k) = j := by
            funext a; apply Fin.ext
            fin_cases a
            · show (idxs 0 (laneOf k)).toNat = (binRow j).val
              rw [hrow k, hj]
            · show (idxs 1 (laneOf k)).toNat = (binCol j)
              rw [← hj]; exact hc
          have hm : binRow j ∈ k :: l ∧ (idxs 1 (laneOf (binRow j))).toNat = binCol j :=
            ⟨by rw [hj]; exact List.mem_cons_self, hc⟩
          rw [hat, if_pos hm, if_pos (fun a => rfl)]
        · have hn' : ¬(binRow j ∈ k :: l ∧ (idxs 1 (laneOf (binRow j))).toNat = binCol j) := fun hh => hc hh.2
          rw [if_neg hn', if_neg]
          intro ha
          exact hc (by rw [hj]; exact (ha 1).symm)
      · have hne : ¬(∀ a, (j a).val = (idxAt idxs h (laneOf k) a).val) := by
          intro ha
          exact hj (Fin.ext ((ha 0).trans (hrow k)))
        rw [if_neg hne]
        simp only [List.mem_cons, hj, false_or]
  have := key (List.finRange 16) f (List.nodup_finRange _)
  simp only [List.mem_finRange, true_and] at this
  rw [← this]
  unfold storeIdx
  simp only [show ((1#1 : BitVec 1) = 1) from rfl, if_true]
  rfl

/-- The scatter of ones at entry `n` of every row takes the histogram of the first `n` entries to that of the first
    `n + 1`. -/
theorem storeIdx_hist (t : Vec F Toks .i32) (n : Fin 200) (idxs : Fin 2 → IVec Lanes 32)
    (h : ∀ a x, (idxs a x).toNat < Bins.size a) (hrow : ∀ r : Fin 16, (idxs 0 (laneOf r)).toNat = r.val)
    (hcol : ∀ r : Fin 16, idxs 1 (laneOf r) = rowOf t r n) :
    storeIdx (s := Bins) (histAt t n.val) idxs (fun _ => oneF) (fun _ => 1#1) true h = histAt t (n.val + 1) := by
  funext j
  rw [storeIdx_rows _ _ _ _ _ hrow, hcol]
  show _ = cntF (cnt (rowOf t (binRow j)) (n.val + 1) (binCol j))
  rw [cnt_succ]
  split <;> rfl

/-- The scatter of zeros at entry `n` of every row clears one more entry's bins. -/
theorem storeIdx_clear (t : Vec F Toks .i32) (n : Fin 200) (idxs : Fin 2 → IVec Lanes 32)
    (h : ∀ a x, (idxs a x).toNat < Bins.size a) (hrow : ∀ r : Fin 16, (idxs 0 (laneOf r)).toNat = r.val)
    (hcol : ∀ r : Fin 16, idxs 1 (laneOf r) = rowOf t r n) :
    storeIdx (s := Bins) (clearAt t n.val) idxs (fun _ => zeroF) (fun _ => 1#1) false h = clearAt t (n.val + 1) := by
  funext j
  rw [storeIdx_rows _ _ _ _ _ hrow, hcol]
  unfold clearAt
  simp only [Bool.false_eq_true, if_false]
  by_cases hc : (rowOf t (binRow j) n).toNat = (binCol j)
  · rw [if_pos hc, if_pos ((seen_succ _ _ _).mpr (.inl hc))]
  · rw [if_neg hc]
    by_cases hs : seen (rowOf t (binRow j)) n.val (binCol j)
    · rw [if_pos hs, if_pos ((seen_succ _ _ _).mpr (.inr hs))]
    · rw [if_neg hs, if_neg (fun h' => ((seen_succ _ _ _).mp h').elim hc hs)]

end Cert.Hist
-- ==== Proof.Views.lean ====
/-
  Whole buffers seen through unit-stride rectangles: what an unmasked write through one leaves, and what a read
  through one sees, index by index.
-/
module

public import Idealize.ShloMosaic.Lib.Tactic

@[expose] public section

noncomputable section

namespace Cert.Views

open Idealize.ShloMosaic

variable {sig : RefSig} {κ : Kind} {Val : EltTy → Type}

/-- Reading a whole buffer through a rectangle takes the buffer's element at the rectangle's place. -/
theorem read_slice (b : Ref sig κ) (r : Rect b.ty.shape) (f : b.ty.Contents Val) (x : r.shape.Idx) :
    ((View.whole b).slice r).read Val f x = f (r.emb x) := rfl

/-- An unmasked write through a rectangle puts the payload at the rectangle's places, -/
theorem write_slice_emb (b : Ref sig κ) (r : Rect b.ty.shape) (f : b.ty.Contents Val) (w : r.shape.Idx → Val b.ty.elt)
    (x : r.shape.Idx) : ((View.whole b).slice r).write Val f w Finset.univ (r.emb x) = w x :=
  View.write_emb_of_mem (v := (View.whole b).slice r) f w (Finset.mem_univ x)

/-- and leaves the others. -/
theorem write_slice_off (b : Ref sig κ) (r : Rect b.ty.shape) (f : b.ty.Contents Val) (w : r.shape.Idx → Val b.ty.elt)
    {i : b.ty.shape.Idx} (h : i ∉ r.set) : ((View.whole b).slice r).write Val f w Finset.univ i = f i := by
  refine View.write_of_not_mem (v := (View.whole b).slice r) f w _ fun hi => h ?_
  have hs : ((View.whole b).slice r).set = r.set := View.set_slice_whole b r
  exact hs ▸ hi

/-- A write of one value at every place of a rectangle: that value there, the old contents elsewhere. -/
theorem write_slice_const (b : Ref sig κ) (r : Rect b.ty.shape) (f : b.ty.Contents Val) (w : r.shape.Idx → Val b.ty.elt)
    (z : Val b.ty.elt) (hz : ∀ x, w x = z) (i : b.ty.shape.Idx) [Decidable (i ∈ r.set)] :
    ((View.whole b).slice r).write Val f w Finset.univ i = if i ∈ r.set then z else f i := by
  split
  · rename_i h
    obtain ⟨x, rfl⟩ : ∃ x, r.emb x = i := r.toLoadRect.exists_idx_of_mem h
    rw [write_slice_emb, hz]
  · rename_i h; exact write_slice_off b r f w h

end Cert.Views
-- ==== Proof.WholeBlock.lean ====
/-
  Loads and stores of a whole staging block: a load through the rectangle that is the block reads what the block
  holds, a store through it leaves what it stored.
-/
module

public import Idealize.ShloMosaic.Lib.Pipeline.FrameBody
public import Idealize.ShloMosaic.Lib.Pipeline.ValueKit.Basic
public import Idealize.ShloMosaic.Lib.Tactic

@[expose] public section

noncomputable section

namespace Cert.WholeBlock

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} [∀ e, Nonempty (Val e)] {Λ : Labels}
variable {Ix : Type} [DecidableEq Ix] {Name : Type} [DecidableEq Name] {U : Type} [URA U] {Lvl : Type} [Preorder Lvl]

local notation "𝕄" => MT nD τ sig Ix Val Name U Lvl

variable {defs : Defs nD τ sig Val Λ} (𝒱 : Variants) (c : Thread nD τ) (bd : Option 𝒱.V) (E : Set Name)
variable {sh : Shape} {e : EltTy} {α : Type}

/-- The rectangle at zero offsets with the block's extents has every index of the block. -/
theorem whole_covers {off : Fin sh.rank → ℕ} (h0 : ∀ a, off a = 0) (inb : ∀ a, off a + sh.size a ≤ sh.size a) (y : sh.Idx) :
    y ∈ (Rect.unit (s := sh) off sh.size inb).set := by
  rw [Rect.mem_set_unit]
  intro a
  have := (y a).isLt
  have := h0 a
  omega

/-- A load of a whole block continues at what the block holds. -/
theorem wp_load_block {cs : CoreSpace} (m : Memref sig c.2.kind cs sh e) {off : Fin sh.rank → ℕ} (h0 : ∀ a, off a = 0)
    (inb : ∀ a, off a + sh.size a ≤ sh.size a) (hl : m.view.LoadsAt (Rect.unit (s := sh) off sh.size inb).toLoadRect)
    (k : (sh.Idx → Val e) → Prog (TpuEff nD τ sig Val Λ c.2) α) (X : sh.Idx → Val e) (Q : α → sProp 𝕄) :
    (owns c m fullShare X : sProp 𝕄)
      ⊢ iprop((owns c m fullShare X -∗ wp frame (wpE defs 𝒱 c bd) E (k X) Q)
        -∗ wp frame (wpE defs 𝒱 c bd) E (.op (.load m (Rect.unit (s := sh) off sh.size inb).toLoadRect hl) k) Q) := by
  unfold owns
  iintro ⟨%f, %hf, H⟩ Hk
  iapply (wp_load 𝒱 c bd E (m := m) (S := m.view.set) (f := f) (View.setOn_subset_set _ _)) $$ H
  iintro H
  have hread : m.view.readAt Val (Rect.unit (s := sh) off sh.size inb).toLoadRect f = X :=
    (View.readAt_eq_ld _ _ _).trans ((View.ld_unit_lit inb _ h0).trans hf)
  rw [hread]
  iapply Hk
  iexists f
  isplitr; · ipureintro; exact hf
  iexact H

/-- A store of a whole block leaves the block at what it stored. -/
theorem wp_store_block {cs : CoreSpace} (m : Memref sig c.2.kind cs sh e) {off : Fin sh.rank → ℕ} (h0 : ∀ a, off a = 0)
    (inb : ∀ a, off a + sh.size a ≤ sh.size a) (w : sh.Idx → Val e)
    (hx : (m.access (Rect.unit (s := sh) off sh.size inb)).Stores Finset.univ)
    (hm : Finset.univ = Finset.univ ∨ ∀ a, (Rect.unit (s := sh) off sh.size inb).stride a = 1)
    (k : PUnit → Prog (TpuEff nD τ sig Val Λ c.2) α) (X : sh.Idx → Val e) (Q : α → sProp 𝕄) :
    (owns c m fullShare X : sProp 𝕄)
      ⊢ iprop((owns c m fullShare w -∗ wp frame (wpE defs 𝒱 c bd) E (k ⟨⟩) Q)
        -∗ wp frame (wpE defs 𝒱 c bd) E (.op (.store m (Rect.unit (s := sh) off sh.size inb) w Finset.univ hx hm) k) Q) := by
  unfold owns
  iintro ⟨%f, -, H⟩ Hk
  iapply (wp_store_writes₀ 𝒱 c bd E (m := m) (r := Rect.unit (s := sh) off sh.size inb) (w := w) (f := f) (S := m.view.set)
    (View.set_slice_subset _ _)) $$ H
  iintro H
  iapply Hk
  iexists (m.view.writes Val f [⟨Rect.unit (s := sh) off sh.size inb, w⟩])
  isplitr
  · ipureintro
    have hmem : ∀ y : sh.Idx, ∃ p ∈ [(⟨Rect.unit (s := sh) off sh.size inb, w⟩ : View.Piece Val sh e)], y ∈ p.1.set := fun y =>
      ⟨_, List.mem_singleton_self _, whole_covers h0 inb y⟩
    exact (View.read_writes_eq_canon m.view f _ hmem).trans (View.canon_cons_unit_lit inb w [] h0)
  iexact H

end Cert.WholeBlock

end
-- ==== Proof.TokenPre.lean ====
/-
  What the precondition says of the arguments: every token is below 4101, and every entry of the first layer's
  weights is of finite size.
-/
module

public import proofs.«01_k».proof.Proof.Gen.Pre_tokens_in_range
public import Idealize.ShloMosaic.Lib.ReduceAll
public import Idealize.ShloMosaic.Lib.WordCmp
public import Idealize.ShloMosaic.Lib.Affine

@[expose] public section

noncomputable section

namespace Cert.TokenPre

open Cert.Pre_tokens_in_range Cert.Pre_tokens_in_range.Gen
open Idealize.ShloMosaic Idealize.ShloMosaic.WordCmp

variable {F : FTy → Type} [FloatOps F]

theorem parts (x : IVec S1024x3x200 32) (w : FVec F S4101x768 .f32) (b : FVec F S768 .f32) (w2 : FVec F S768x256 .f32) (b2 : FVec F S256 .f32)
    (h : fn (F := F) x w b w2 b2 = fun _ => 1#1) :
    (∀ i, (x i).toNat < 4101) ∧ ∀ i, FloatOps.cmpf .olt (FloatOps.hostAbsf (w i)) (FloatOps.ofBits (F := F) .f32 0x7F800000#32) = 1#1 := by
  have e := congrFun h (fun a => a.elim0)
  unfold fn at e
  obtain ⟨e12, e3⟩ := IntOp.andi_eq_one.mp e
  obtain ⟨e1, e2⟩ := IntOp.andi_eq_one.mp e12
  haveI : Subsingleton S_.Idx := ⟨fun a b => funext fun i => i.elim0⟩
  refine ⟨fun i => ?_, fun i => ?_⟩
  · have h1 := Host.reduce_andi_all _ _ _ _ _ e1 i
    have h2 := Host.reduce_andi_all _ _ _ _ _ e2 i
    have h3 : IntOp.andi (IntOp.cmpi .sge (x i) 0#32) (IntOp.cmpi .slt (x i) (BitVec.ofNat 32 4101)) = 1#1 :=
      IntOp.andi_eq_one.mpr ⟨h1, h2⟩
    rw [andi_sge_zero_slt_ofNat (by decide), ofBool_decide_eq_one_iff] at h3
    exact h3
  · exact Host.reduce_andi_all _ _ _ _ _ e3 i

end Cert.TokenPre

end
-- ==== Proof.KernelIdealBase.lean ====
/-
  The setting of the program's run: the launch as the SparseCore launch theorem sees it, the resource algebra
  (the handshakes' rounds, the pipeline's rounds, the transfers' counters), and the arrays the SparseCore call
  works on.
-/
module

public import proofs.«01_k».proof.Defs
public import proofs.«01_k».proof.Proof.Hist
public import proofs.«01_k».proof.Proof.Views
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Proved

open Cert.KernelIdeal Cert.KernelIdeal.Gen Cert.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The launch -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline's rounds: the left of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The arrays of the SparseCore call -/

/-- The token rows the call reads. -/
abbrev xLoc (d : Dev nD) : Loc nD τ sig := (SparseCore.T d).loc main_v1
/-- The histograms it writes. -/
abbrev oLoc (d : Dev nD) : Loc nD τ sig := (SparseCore.T d).loc main_v10

abbrev xV : Memref sig .scVector .hbm S3072x200 .i32 := Memref.whole main_v1_scv
abbrev oV : Memref sig .scVector .hbm S3072x4224 .f32 := Memref.whole main_v10_scv
/-- A tile's scratch: the fetched tokens, the histogram. -/
abbrev sT : Memref sig .scVector .vmem S16x200 .i32 := Memref.whole cc0_scratch0
abbrev sB : Memref sig .scVector .vmem S16x4224 .f32 := Memref.whole cc0_scratch1

abbrev cV (L : grid0.Coords) : Fin τ.nSC := (L 0).castLE hcore0
abbrev jV (L : grid0.Coords) : Fin τ.nSub := (L 1).castLE hsub0

/-- The thread of a tile. -/
abbrev thr (d : Dev nD) (L : grid0.Coords) : Thread nD τ := V d (cV L) (jV L)

abbrev inCell (d : Dev nD) (c : Fin τ.nSC) (i : Fin τ.nSub) : GSem nD τ sig := (V d c i, .dma cc0_scoped0.sem)
abbrev outCell (d : Dev nD) (c : Fin τ.nSC) (i : Fin τ.nSub) : GSem nD τ sig := (V d c i, .dma cc0_scoped1.sem)

/-- A tile's number among the thirty-two. -/
def tileNo (L : grid0.Coords) : ℕ := 2 * (L 1).val + (L 0).val

/-- The token rows of a tile: ninety-six in a row. -/
def xTile (n : ℕ) : Finset S3072x200.Idx := Finset.univ.filter fun j => (j 0).val / 96 = n
/-- The histogram rows of a tile. -/
def oTile (n : ℕ) : Finset S3072x4224.Idx := Finset.univ.filter fun j => (j 0).val / 96 = n

theorem mem_xTile {n : ℕ} {j : S3072x200.Idx} : j ∈ xTile n ↔ (j 0).val / 96 = n := by simp [xTile]
theorem mem_oTile {n : ℕ} {j : S3072x4224.Idx} : j ∈ oTile n ↔ (j 0).val / 96 = n := by simp [oTile]

/-- The histogram of every token row. -/
def hist [FloatOps F] (X : Vec F S3072x200 .i32) : Vec F S3072x4224 .f32 :=
  fun j => cntF (cnt (fun l => X (ix2 3072 200 (j 0) l)) 200 (j 1).val)

end Cert.KernelIdeal.Proved
-- ==== Proof.KernelIdealZero.lean ====
/-
  The sixteen loops that clear a tile's histogram: each clears one row, sixteen bins a trip. The row's loop is
  proved once, for any row.
-/
module

public import proofs.«01_k».proof.Proof.KernelIdealBase

@[expose] public section

noncomputable section

namespace Cert.KernelIdeal.Proved

open Cert.KernelIdeal Cert.KernelIdeal.Gen Cert.Hist

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The bins below row `r`, and those of row `r` left of column `n`, are zero. -/
def Cleared (r n : ℕ) (f : Vec F S16x4224 .f32) : Prop :=
  ∀ j : S16x4224.Idx, ((j 0).val < r ∨ ((j 0).val = r ∧ (j 1).val < n)) → f j = zeroF

variable (d : Dev nD) (L : grid0.Coords)

/-- The tile's histogram, with the bins below row `r` and row `r`'s first `n` zero. -/
def cleared (r n : ℕ) : sProp 𝕄 :=
  iprop(∃ f : Vec F S16x4224 .f32, ⌜Cleared r n f⌝ ∗ (sB).view.loc (thr d L) ↦{fullShare} f)

/-- One trip of a clearing loop, its row's offsets and the zero vector given. -/
def zeroTrip (off : Fin k0_t1_loop.trips → Fin 2 → ℕ) (inb : ∀ k a, off k a + S1x16.size a ≤ S16x4224.size a) (v : FVec F S16 .f32) :
    Fin k0_t1_loop.trips → BitVec 32 → Prog (TpuEff nD τ sig (Elt F) Λ₀ (.scVector ((L 0).castLE hcore0) ((L 1).castLE hsub0))) (BitVec 32) :=
  fun k _ => do
    let _ : Vec F S1x16 .f32 ← Prog.lift (.load sB (Rect.unit (s := S16x4224) (off k) S1x16.size (inb k)).toLoadRect (View.loadsAt_vmem h_S1x16))
    Prog.lift (.store sB (Rect.unit (s := S16x4224) (off k) S1x16.size (inb k)) (shapeCast S1x16 v shapeCasts_S16_S1x16) Finset.univ (View.stores_vmem_bits_univ h_S1x16 rfl) (.inl rfl))
    pure 0#32

/-- A store of sixteen zeros at column `16 k` of row `r` extends the cleared part of that row. -/
theorem cleared_store (r k : ℕ) (off : Fin 2 → ℕ) (hoff : off = ![r, 16 * k]) (inb : ∀ a, off a + S1x16.size a ≤ S16x4224.size a)
    (f : Vec F S16x4224 .f32) (v : FVec F S16 .f32) (hv : ∀ x, v x = zeroF) (hf : Cleared r (16 * k) f) :
    Cleared r (16 * (k + 1)) ((sB.access (Rect.unit (s := S16x4224) off S1x16.size inb)).write (Elt F) f
      (shapeCast S1x16 v shapeCasts_S16_S1x16) Finset.univ) := by
  classical
  subst hoff
  intro j hj
  refine (Views.write_slice_const (Val := Elt F) (cc0_scratch1 : Ref sig .scVector) _ f _ zeroF (fun x => hv _) j).trans ?_
  split
  · rfl
  · rename_i hn
    refine hf j ?_
    rcases hj with hj | ⟨h0, h1⟩
    · exact .inl hj
    · refine .inr ⟨h0, ?_⟩
      by_contra hc
      refine hn ?_
      rw [Rect.mem_set_unit]
      intro a
      match a with
      | 0 => exact ⟨by show r ≤ (j 0).val; omega, by show (j 0).val < r + 1; omega⟩
      | 1 => exact ⟨by show 16 * k ≤ (j 1).val; omega, by show (j 1).val < 16 * k + 16; omega⟩

/-- A row cleared to its end is a row more cleared. -/
theorem cleared_next (r : ℕ) (f : Vec F S16x4224 .f32) (hf : Cleared r (16 * 264) f) : Cleared (r + 1) 0 f := by
  intro j hj
  have h1 : (j 1).val < 4224 := (j 1).isLt
  exact hf j (by omega)

/-- The rectangle one trip stores. -/
abbrev zeroRect (off : Fin 2 → ℕ) (inb : ∀ a, off a + S1x16.size a ≤ S16x4224.size a) : Rect S16x4224 :=
  Rect.unit (s := S16x4224) off S1x16.size inb

/-- A trip of the loop that clears row `r`. -/
theorem wp_zeroTrip (r : ℕ) (off : Fin k0_t1_loop.trips → Fin 2 → ℕ) (inb : ∀ k a, off k a + S1x16.size a ≤ S16x4224.size a)
    (k : Fin k0_t1_loop.trips) (acc : BitVec 32) (hoff : off k = ![r, 16 * k.val]) (v : FVec F S16 .f32) (hv : ∀ x, v x = zeroF) :
    cleared d L r (16 * k.val) ⊢ wp frame (wpE (defs₀ (F := F)) 𝒱₀ (thr d L) none) Set.univ (zeroTrip L off inb v k acc)
      fun _ => cleared (F := F) d L r (16 * (k.val + 1)) := by
  unfold zeroTrip cleared
  simp only [Prog.lift, Prog.bind_op, Prog.bind_ret, Prog.pure_eq_ret]
  iintro ⟨%f, %hf, H⟩
  iapply (wp_load 𝒱₀ (thr d L) none Set.univ (m := (sB : Memref sig .scVector .vmem S16x4224 .f32)) (S := Finset.univ) (Finset.subset_univ _)) $$ H
  iintro H
  iapply (wp_store_writes₀ 𝒱₀ (thr d L) none Set.univ (m := (sB : Memref sig .scVector .vmem S16x4224 .f32)) (r := zeroRect (off k) (inb k))
    (w := shapeCast S1x16 v shapeCasts_S16_S1x16) (f := f) (S := Finset.univ) (Finset.subset_univ _)) $$ H
  iintro H
  rw [wp_ret]; imodintro
  iexists ((sB.access (zeroRect (off k) (inb k))).write (Elt F) f (shapeCast S1x16 v shapeCasts_S16_S1x16) Finset.univ)
  isplitr
  · ipureintro; exact cleared_store r k.val (off k) hoff (inb k) f v hv hf
  · iexact H

/-- A clearing loop makes 264 trips. -/
theorem zero_trips : k0_t1_loop.trips = 264 := by decide

/-- The loop that clears row `r`, at the head of a program. -/
theorem wp_zeroRow (r : ℕ) (off : Fin k0_t1_loop.trips → Fin 2 → ℕ) (inb : ∀ k a, off k a + S1x16.size a ≤ S16x4224.size a)
    (hoff : ∀ k, off k = ![r, 16 * k.val]) (v : FVec F S16 .f32) (hv : ∀ x, v x = zeroF) (init : BitVec 32)
    {β : Type} (kk : BitVec 32 → Prog (TpuEff nD τ sig (Elt F) Λ₀ (.scVector ((L 0).castLE hcore0) ((L 1).castLE hsub0))) β)
    (Q : β → sProp 𝕄) :
    cleared d L r 0 ⊢ iprop((∀ acc, cleared (F := F) d L (r + 1) 0 -∗ wp frame (wpE (defs₀ (F := F)) 𝒱₀ (thr d L) none) Set.univ (kk acc) Q)
      -∗ wp frame (wpE (defs₀ (F := F)) 𝒱₀ (thr d L) none) Set.univ (Scf.Loop.for k0_t1_loop k0_t1_ok init (zeroTrip L off inb v) >>= kk) Q) := by
  iintro H HK
  iapply (Scf.wp_for_bind frame (wpE (defs₀ (F := F)) 𝒱₀ (thr d L) none) Set.univ k0_t1_loop.lb k0_t1_loop.ub k0_t1_loop.st k0_t1_ok init
    (zeroTrip L off inb v) (fun n _ => cleared (F := F) d L r (16 * n))
    (fun k acc => wp_zeroTrip d L r off inb k acc (hoff k) v hv)) $$ [H]
  · iexact H
  iintro %acc H
  iapply HK $$ %acc
  ihave Hn := (show cleared (F := F) d L r (16 * k0_t1_loop.trips) ⊢ cleared d L (r + 1) 0 from by
    rw [zero_trips]; unfold cleared
    iintro ⟨%f, %hf, H⟩
    iexists f
    isplitr
    · ipureintro; exact cleared_next r f hf
    · iexact H) $$ H
  iexact Hn

end Cert.KernelIdeal.Proved
-- ==== Proof.KernelIdealTrip.lean ====
/-
  One trip of the two counting loops of a block: gather one token of every row, check that it names a bin, and
  scatter a vector into the bins. The counting loop adds ones, the clearing loop writes zeros; a trip is stated
  once for both.
-/
module

public import proofs.«01_k».proof.Proof.KernelIdealZero

@[expose] public section

noncomputable section

namespace Cert.KernelIdeal.Proved

open Cert.KernelIdeal Cert.KernelIdeal.Gen Cert.Hist

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The lane numbers. -/
abbrev lanes : IVec S16 32 := iota .scVector S16 32 [0] iota_S16_d0_w32_scVector

theorem lanes_at (x : S16.Idx) : (lanes x).toNat = (x 0).val := by
  have hx : (x 0).val < 16 := (x 0).isLt
  show (BitVec.ofNat 32 (0 * 16 + (x 0).val)).toNat = _
  rw [Nat.zero_mul, Nat.zero_add, BitVec.toNat_ofNat]
  exact Nat.mod_eq_of_lt (by omega)

/-- The column a trip gathers. -/
abbrev colAt (n : ℕ) : IVec S16 32 := broadcast S16 (Scf.iv 0#32 1#32 n)

theorem colAt_at (n : ℕ) (hn : n < 200) (x : S16.Idx) : (colAt n x).toNat = n := by
  show (0#32 + BitVec.ofNat 32 n * 1#32).toNat = n
  rw [BitVec.mul_one, BitVec.zero_add, BitVec.toNat_ofNat]
  exact Nat.mod_eq_of_lt (by omega)

/-- The gather is inside the token scratch. -/
theorem gather_inb (n : ℕ) (hn : n < 200) : ∀ a x, ((![lanes, colAt n] : Fin 2 → IVec S16 32) a x).toNat < S16x200.size a := by
  intro a x
  match a with
  | 0 =>
    show (lanes x).toNat < 16
    rw [lanes_at]; exact (x 0).isLt
  | 1 =>
    show (colAt n x).toNat < 200
    rw [colAt_at n hn]; exact hn

/-- What the gather reads: each row's token `n`. -/
theorem gather_at (t : Vec F S16x200 .i32) (n : Fin 200)
    (h : ∀ a x, ((![lanes, colAt n.val] : Fin 2 → IVec S16 32) a x).toNat < S16x200.size a) (r : Fin 16) :
    loadIdx (s := S16x200) t ![lanes, colAt n.val] h (laneOf r) = rowOf t r n := by
  show t _ = t _
  congr 1
  funext a
  apply Fin.ext
  match a with
  | 0 => exact lanes_at (laneOf r)
  | 1 => exact colAt_at n.val n.isLt (laneOf r)

/-- The scatter is inside the histogram when every token is below 4224. -/
theorem scatter_inb (t : Vec F S16x200 .i32) (ht : ∀ j, (t j).toNat < 4224) (idxs : Fin 2 → IVec S16 32)
    (h : ∀ a x, (idxs a x).toNat < S16x200.size a) :
    ∀ a x, ((![lanes, loadIdx (s := S16x200) t idxs h] : Fin 2 → IVec S16 32) a x).toNat < S16x4224.size a := by
  intro a x
  match a with
  | 0 =>
    show (lanes x).toNat < 16
    rw [lanes_at]; exact (x 0).isLt
  | 1 => exact ht _

variable (d : Dev nD) (L : grid0.Coords)

/-- The token scratch at contents `t`. -/
abbrev tokPts (t : Vec F S16x200 .i32) : sProp 𝕄 := (sT).view.loc (thr d L) ↦{fullShare} t
/-- The histogram scratch at contents `f`. -/
abbrev binPts (f : Vec F S16x4224 .f32) : sProp 𝕄 := (sB).view.loc (thr d L) ↦{fullShare} f

/-- One trip: gather, check, scatter `v`. -/
def scatTrip (v : FVec F S16 .f32) (add : Bool) (n : ℕ) :
    Prog (TpuEff nD τ sig (Elt F) Λ₀ (.scVector ((L 0).castLE hcore0) ((L 1).castLE hsub0))) (BitVec 32) := do
  let w : IVec S16 32 := broadcast S16 (Scf.iv 0#32 1#32 n)
  have hw : k0_chk1 lanes w := (← Prog.lift (TpuEff.assume (k0_chk1 lanes w) (k0_chk1.dec lanes w))).down
  let g : Vec F S16 .i32 ← SparseCore.vectorLoadIdx sT ![lanes, w] (k0_idx1_inb lanes w hw) (View.loads_vmem h_S16x200)
  have hg : k0_chk2 lanes g := (← Prog.lift (TpuEff.assume (k0_chk2 lanes g) (k0_chk2.dec lanes g))).down
  SparseCore.vectorStoreIdx sB ![lanes, g] v (fun _ => 1#1) add (k0_idx2_inb lanes g hg) (View.stores_vmem_bits_univ h_S16x4224 rfl)
  pure 0#32

theorem binPts_whole (f : Vec F S16x4224 .f32) :
    ((sB.access (.whole S16x4224)).loc (thr d L) ↦[(sB.access (.whole S16x4224)).set]{fullShare} f : sProp 𝕄) = binPts d L f := by
  rw [show (sB.access (.whole S16x4224)).set = Finset.univ from Memref.set_access_whole (cc0_scratch1 : Ref sig .scVector)]

/-- A trip, given what its scatter makes of the histogram. -/
theorem wp_scatTrip (t : Vec F S16x200 .i32) (ht : ∀ j, (t j).toNat < 4224) (n : Fin 200) (v : FVec F S16 .f32) (add : Bool)
    (f f' : Vec F S16x4224 .f32)
    (hf : ∀ (idxs : Fin 2 → IVec Lanes 32) (h : ∀ a x, (idxs a x).toNat < Bins.size a),
      (∀ r : Fin 16, (idxs 0 (laneOf r)).toNat = r.val) → (∀ r : Fin 16, idxs 1 (laneOf r) = rowOf t r n) →
      storeIdx (s := Bins) f idxs v (fun _ => 1#1) add h = f') :
    iprop(tokPts d L t ∗ binPts d L f) ⊢ wp frame (wpE (defs₀ (F := F)) 𝒱₀ (thr d L) none) Set.univ (scatTrip L v add n.val)
      fun _ => iprop(tokPts (F := F) d L t ∗ binPts d L f') := by
  unfold scatTrip
  simp only [Prog.lift, Prog.bind_op, Prog.bind_ret, Prog.pure_eq_ret]
  iintro ⟨Ht, Hb⟩
  rw [wp_assume_of _ _ _ _ (show k0_chk1 lanes (broadcast S16 (Scf.iv 0#32 1#32 n.val)) from gather_inb n.val n.isLt)]
  iapply (SparseCore.wp_vectorLoadIdx 𝒱₀ (thr d L) none Set.univ (base := (sT : Memref sig .scVector .vmem S16x200 .i32))
    (S := Finset.univ) (q := fullShare) (f := t) (Finset.subset_univ _)) $$ Ht
  iintro Ht
  rw [show (sT.access (.whole S16x200)).read (Elt F) t = t from Memref.read_access_whole _ (cc0_scratch0 : Ref sig .scVector) t]
  rw [wp_assume_of _ _ _ _ (show k0_chk2 lanes (loadIdx (s := S16x200) t ![lanes, colAt n.val] (gather_inb n.val n.isLt)) from
    scatter_inb t ht ![lanes, colAt n.val] (gather_inb n.val n.isLt))]
  ihave Hb := (Entails.of_eq (binPts_whole (F := F) d L f).symm) $$ Hb
  iapply (SparseCore.wp_vectorStoreIdx 𝒱₀ (thr d L) none Set.univ (base := (sB : Memref sig .scVector .vmem S16x4224 .f32)) (f := f)) $$ Hb
  iintro Hb
  rw [show (sB.access (.whole S16x4224)).read (Elt F) f = f from Memref.read_access_whole _ (cc0_scratch1 : Ref sig .scVector) f]
  rw [hf _ _ (fun r => lanes_at (laneOf r)) (fun r => gather_at t n _ r)]
  rw [show (sB.access (.whole S16x4224)).write (Elt F) f f' Finset.univ = f' from Memref.write_access_whole_univ _ (cc0_scratch1 : Ref sig .scVector) f f']
  ihave Hb := (Entails.of_eq (binPts_whole (F := F) d L f')) $$ Hb
  rw [wp_ret]; imodintro
  isplitl [Ht]
  · iexact Ht
  · iexact Hb

/-- The counting loop and the clearing loop make 200 trips. -/
theorem count_trips : k0_t18_loop.trips = 200 := by decide

/-- The counting loop, at the head of a program: from the empty histogram to the block's. -/
theorem wp_countLoop (t : Vec F S16x200 .i32) (ht : ∀ j, (t j).toNat < 4224) (init : BitVec 32)
    {β : Type} (kk : BitVec 32 → Prog (TpuEff nD τ sig (Elt F) Λ₀ (.scVector ((L 0).castLE hcore0) ((L 1).castLE hsub0))) β)
    (Q : β → sProp 𝕄) :
    iprop(tokPts d L t ∗ binPts d L zeroBins) ⊢ iprop((∀ acc, iprop(tokPts (F := F) d L t ∗ binPts d L (histAt t 200))
        -∗ wp frame (wpE (defs₀ (F := F)) 𝒱₀ (thr d L) none) Set.univ (kk acc) Q)
      -∗ wp frame (wpE (defs₀ (F := F)) 𝒱₀ (thr d L) none) Set.univ
        (Scf.Loop.for k0_t18_loop k0_t18_ok init (fun k (_ : BitVec 32) => scatTrip L (k0_pay2 (F := F)) true k.val) >>= kk) Q) := by
  iintro H HK
  iapply (Scf.wp_for_bind frame (wpE (defs₀ (F := F)) 𝒱₀ (thr d L) none) Set.univ k0_t18_loop.lb k0_t18_loop.ub k0_t18_loop.st k0_t18_ok init
    (fun k (_ : BitVec 32) => scatTrip L (k0_pay2 (F := F)) true k.val) (fun n _ => iprop(tokPts d L t ∗ binPts (F := F) d L (histAt t n)))
    (fun k acc => wp_scatTrip d L t ht ⟨k.val, count_trips ▸ k.isLt⟩ _ true (histAt t k.val) (histAt t (k.val + 1))
      fun idxs h hr hc => storeIdx_hist t ⟨k.val, count_trips ▸ k.isLt⟩ idxs h hr hc)) $$ [H]
  · rw [histAt_zero]; iexact H
  iintro %acc H
  iapply HK $$ %acc
  ihave Hn := (show iprop(tokPts d L t ∗ binPts (F := F) d L (histAt t k0_t18_loop.trips)) ⊢ iprop(tokPts d L t ∗ binPts (F := F) d L (histAt t 200)) from by
    rw [count_trips]) $$ H
  iexact Hn

/-- The clearing loop, at the head of a program: from the block's histogram to the empty one. -/
theorem wp_clearLoop (t : Vec F S16x200 .i32) (ht : ∀ j, (t j).toNat < 4224) (init : BitVec 32)
    {β : Type} (kk : BitVec 32 → Prog (TpuEff nD τ sig (Elt F) Λ₀ (.scVector ((L 0).castLE hcore0) ((L 1).castLE hsub0))) β)
    (Q : β → sProp 𝕄) :
    iprop(tokPts d L t ∗ binPts d L (histAt t 200)) ⊢ iprop((∀ acc, iprop(tokPts (F := F) d L t ∗ binPts d L zeroBins)
        -∗ wp frame (wpE (defs₀ (F := F)) 𝒱₀ (thr d L) none) Set.univ (kk acc) Q)
      -∗ wp frame (wpE (defs₀ (F := F)) 𝒱₀ (thr d L) none) Set.univ
        (Scf.Loop.for k0_t18_loop k0_t18_ok init (fun k (_ : BitVec 32) => scatTrip L (k0_pay1 (F := F)) false k.val) >>= kk) Q) := by
  iintro H HK
  iapply (Scf.wp_for_bind frame (wpE (defs₀ (F := F)) 𝒱₀ (thr d L) none) Set.univ k0_t18_loop.lb k0_t18_loop.ub k0_t18_loop.st k0_t18_ok init
    (fun k (_ : BitVec 32) => scatTrip L (k0_pay1 (F := F)) false k.val) (fun n _ => iprop(tokPts d L t ∗ binPts (F := F) d L (clearAt t n)))
    (fun k acc => wp_scatTrip d L t ht ⟨k.val, count_trips ▸ k.isLt⟩ _ false (clearAt t k.val) (clearAt t (k.val + 1))
      fun idxs h hr hc => storeIdx_clear t ⟨k.val, count_trips ▸ k.isLt⟩ idxs h hr hc)) $$ [H]
  · rw [clearAt_zero]; iexact H
  iintro %acc H
  iapply HK $$ %acc
  ihave Hn := (show iprop(tokPts d L t ∗ binPts (F := F) d L (clearAt t k0_t18_loop.trips)) ⊢ iprop(tokPts d L t ∗ binPts (F := F) d L zeroBins) from by
    rw [count_trips, clearAt_all]) $$ H
  iexact Hn

end Cert.KernelIdeal.Proved
-- ==== Proof.KernelIdealBlock.lean ====
/-
  One block of a tile: sixteen token rows fetched, counted, their histograms written out, the histogram scratch
  cleared again. The loop over a tile's six blocks keeps the rows done so far at their histograms.
-/
module

public import proofs.«01_k».proof.Proof.KernelIdealTrip

@[expose] public section

noncomputable section

namespace Cert.KernelIdeal.Proved

open Cert.KernelIdeal Cert.KernelIdeal.Gen Cert.Hist

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords)

/-! ## The block's rows -/

abbrev inRect (k : Fin k0_t17_loop.trips) : Rect S3072x200 := Rect.unit (s := S3072x200) (k0_off17 L k) S16x200.size (k0_off17_inb L k)
abbrev outRect (k : Fin k0_t17_loop.trips) : Rect S3072x4224 := Rect.unit (s := S3072x4224) (k0_off18 L k) S16x4224.size (k0_off18_inb L k)
abbrev inRows (k : Fin k0_t17_loop.trips) : Memref sig .scVector .hbm S16x200 .i32 := xV.slice (inRect L k) (fun _ => rfl)
abbrev outRows (k : Fin k0_t17_loop.trips) : Memref sig .scVector .hbm S16x4224 .f32 := oV.slice (outRect L k) (fun _ => rfl)

/-- A tile has six blocks. -/
theorem block_trips : k0_t17_loop.trips = 6 := by decide

theorem mem_inRect {k : Fin k0_t17_loop.trips} {j : S3072x200.Idx} : j ∈ (inRect L k).set ↔ (j 0).val / 16 = 6 * tileNo L + k.val := by
  rw [Rect.mem_set_unit, k0_off17_eq]
  constructor
  · intro h
    have h0 := h 0
    have h1 : 192 * (L 1).val + 96 * (L 0).val + 16 * k.val ≤ (j 0).val := h0.1
    have h2 : (j 0).val < 192 * (L 1).val + 96 * (L 0).val + 16 * k.val + 16 := h0.2
    unfold tileNo; omega
  · intro h a
    unfold tileNo at h
    match a with
    | 0 => exact ⟨show 192 * (L 1).val + 96 * (L 0).val + 16 * k.val ≤ (j 0).val by omega,
        show (j 0).val < 192 * (L 1).val + 96 * (L 0).val + 16 * k.val + 16 by omega⟩
    | 1 => exact ⟨Nat.zero_le _, show (j 1).val < 0 + 200 by have : (j 1).val < 200 := (j 1).isLt; omega⟩

theorem mem_outRect {k : Fin k0_t17_loop.trips} {j : S3072x4224.Idx} : j ∈ (outRect L k).set ↔ (j 0).val / 16 = 6 * tileNo L + k.val := by
  rw [Rect.mem_set_unit, k0_off18_eq]
  constructor
  · intro h
    have h0 := h 0
    have h1 : 192 * (L 1).val + 96 * (L 0).val + 16 * k.val ≤ (j 0).val := h0.1
    have h2 : (j 0).val < 192 * (L 1).val + 96 * (L 0).val + 16 * k.val + 16 := h0.2
    unfold tileNo; omega
  · intro h a
    unfold tileNo at h
    match a with
    | 0 => exact ⟨show 192 * (L 1).val + 96 * (L 0).val + 16 * k.val ≤ (j 0).val by omega,
        show (j 0).val < 192 * (L 1).val + 96 * (L 0).val + 16 * k.val + 16 by omega⟩
    | 1 => exact ⟨Nat.zero_le _, show (j 1).val < 0 + 4224 by have : (j 1).val < 4224 := (j 1).isLt; omega⟩

theorem set_inRows (k : Fin k0_t17_loop.trips) : (inRows L k).view.set = (inRect L k).set :=
  View.set_slice_whole (main_v1_scv : Ref sig .scVector) (inRect L k)
theorem set_outRows (k : Fin k0_t17_loop.trips) : (outRows L k).view.set = (outRect L k).set :=
  View.set_slice_whole (main_v10_scv : Ref sig .scVector) (outRect L k)

theorem inRows_sub (k : Fin k0_t17_loop.trips) : (inRows L k).view.set ⊆ xTile (tileNo L) := by
  intro j hj
  rw [set_inRows] at hj
  have h := (mem_inRect L).mp hj
  have hk : k.val < 6 := block_trips ▸ k.isLt
  rw [mem_xTile]; omega
theorem outRows_sub (k : Fin k0_t17_loop.trips) : (outRows L k).view.set ⊆ oTile (tileNo L) := by
  intro j hj
  rw [set_outRows] at hj
  have h := (mem_outRect L).mp hj
  have hk : k.val < 6 := block_trips ▸ k.isLt
  rw [mem_oTile]; omega

/-! ## What is done after `n` blocks -/

/-- The tile's rows of the first `n` blocks hold their histograms. -/
def Done (X : Vec F S3072x200 .i32) (n : ℕ) (f : Vec F S3072x4224 .f32) : Prop :=
  ∀ j ∈ oTile (tileNo L), (j 0).val / 16 < 6 * tileNo L + n → f j = hist X j

/-- The tokens a block fetches. -/
abbrev tokens (X : Vec F S3072x200 .i32) (k : Fin k0_t17_loop.trips) : Vec F S16x200 .i32 := (inRows L k).view.read (Elt F) X

theorem tokens_at (X : Vec F S3072x200 .i32) (k : Fin k0_t17_loop.trips) (j : S16x200.Idx) :
    tokens L X k j = X ((inRect L k).emb j) := Views.read_slice (Val := Elt F) (main_v1_scv : Ref sig .scVector) _ _ _

/-- The row of a block's bin in the array. -/
theorem emb_row (k : Fin k0_t17_loop.trips) (x : S16x4224.Idx) (l : Fin 200) :
    (inRect L k).emb (ix2 16 200 (binRow x) l) = ix2 3072 200 ((outRect L k).emb x 0) l := by
  funext a
  apply Fin.ext
  match a with
  | 0 =>
    show k0_off17 L k 0 + 1 * (binRow x).val = k0_off18 L k 0 + 1 * (x 0).val
    rw [k0_off17_eq, k0_off18_eq]; rfl
  | 1 =>
    show k0_off17 L k 1 + 1 * l.val = l.val
    rw [k0_off17_eq]
    show 0 + 1 * l.val = l.val
    omega

/-- The block's histogram is that part of the array's. -/
theorem hist_block (X : Vec F S3072x200 .i32) (k : Fin k0_t17_loop.trips) (x : S16x4224.Idx) :
    histAt (tokens L X k) 200 x = hist X ((outRect L k).emb x) := by
  have hrow : rowOf (tokens L X k) (binRow x) = fun l => X (ix2 3072 200 ((outRect L k).emb x 0) l) := by
    funext l
    exact (tokens_at L X k _).trans (congrArg X (emb_row L k x l))
  have hcol : binCol x = ((outRect L k).emb x 1).val := by
    show (x 1).val = k0_off18 L k 1 + 1 * (x 1).val
    rw [k0_off18_eq]
    show (x 1).val = 0 + 1 * (x 1).val
    omega
  unfold histAt hist
  rw [hrow, hcol]

/-- Writing block `n`'s histograms makes one block more done. -/
theorem done_write (X : Vec F S3072x200 .i32) (k : Fin k0_t17_loop.trips) (f : Vec F S3072x4224 .f32) (hf : Done L X k.val f) :
    Done L X (k.val + 1) ((outRows L k).view.write (Elt F) f (histAt (tokens L X k) 200) Finset.univ) := by
  classical
  intro j hj hlt
  by_cases hm : j ∈ (outRect L k).set
  · obtain ⟨x, rfl⟩ : ∃ x, (outRect L k).emb x = j := (outRect L k).toLoadRect.exists_idx_of_mem hm
    refine (Views.write_slice_emb (Val := Elt F) (main_v10_scv : Ref sig .scVector) (outRect L k) f _ x).trans ?_
    exact hist_block L X k x
  · refine (Views.write_slice_off (Val := Elt F) (main_v10_scv : Ref sig .scVector) (outRect L k) f _ hm).trans ?_
    refine hf j hj ?_
    have hn : ¬((j 0).val / 16 = 6 * tileNo L + k.val) := fun h => hm ((mem_outRect L).mpr h)
    omega

/-! ## The block's run -/

variable (X : Vec F S3072x200 .i32) (O : CellTallies nD τ sig (HIx 1)) (W : Waits sig (HIx 1))

/-- What a tile holds between two blocks, `n` of them done. -/
def blockInv (n : ℕ) : sProp 𝕄 :=
  iprop(levAts (K (F := F)).L (K (F := F)).lev
    ∗ (xLoc d ↦[xTile (tileNo L)]{fullShare} X)
    ∗ (∃ f : Vec F S3072x4224 .f32, ⌜Done L X n f⌝ ∗ oLoc d ↦[oTile (tileNo L)]{fullShare} f)
    ∗ (∃ t : Vec F S16x200 .i32, tokPts d L t) ∗ binPts d L zeroBins
    ∗ semVal (inCell d (cV L) (jV L)) 0 ∗ semVal (outCell d (cV L) (jV L)) 0
    ∗ ∃ W', ⌜∀ p ∈ W', p ∈ W ∨ p.2 = none⌝ ∗ owes (thr d L) O W')

/-- The tile's token rows are the block's and the rest. -/
theorem split_rows (k : Fin k0_t17_loop.trips) :
    (xLoc d ↦[xTile (tileNo L)]{fullShare} X : sProp 𝕄)
      ⊣⊢ iprop(((inRows L k).view.loc (thr d L) ↦[(inRows L k).view.set]{fullShare} X)
        ∗ xLoc d ↦[xTile (tileNo L) \ (inRows L k).view.set]{fullShare} X) :=
  pointsTo_split_subset (ℓ := xLoc d) (q := fullShare) (f := X) (inRows_sub L k)

/-- The histogram scratch, all its bins, as the write-out's source. -/
theorem pts_hist (f : Vec F S16x4224 .f32) : ((sB).view.loc (thr d L) ↦[(sB).view.set]{fullShare} f : sProp 𝕄) = binPts d L f := by
  simp only [Memref.view_whole, View.set_whole]

theorem insert_waits {W W' : Waits sig (HIx 1)} (h : ∀ p ∈ W', p ∈ W ∨ p.2 = none) (sm : SemLoc sig) :
    ∀ p ∈ insert (sm, (none : HIx 1)) W', p ∈ W ∨ p.2 = none := by
  intro p hp
  rcases Finset.mem_insert.mp hp with rfl | hp
  · exact .inr rfl
  · exact h p hp

/-- The loop body over a block, its vectors fixed. -/
abbrev blockBody (k : Fin k0_t17_loop.trips) (acc : BitVec 32) :
    Prog (TpuEff nD τ sig (Elt F) Λ₀ (.scVector ((L 0).castLE hcore0) ((L 1).castLE hsub0))) (BitVec 32) :=
  k0_t17_body L xV (Memref.isWhole_whole _) oV (Memref.isWhole_whole _) sT (Memref.isWhole_whole _) sB (Memref.isWhole_whole _)
    cc0_scoped0 cc0_scoped1 lanes (k0_pay1 (F := F)) (k0_pay2 (F := F)) k acc

theorem wp_block (hO : ∀ g, O g none = 0) (hX : ∀ j, (X j).toNat < 4224) (k : Fin k0_t17_loop.trips) (acc : BitVec 32) :
    blockInv d L X O W k.val ⊢ wp frame (wpE (defs₀ (F := F)) 𝒱₀ (thr d L) none) Set.univ (blockBody L k acc)
      fun _ => blockInv (F := F) d L X O W (k.val + 1) := by
  unfold blockBody k0_t17_body blockInv
  simp only [Prog.lift, Prog.bind_op, Prog.bind_ret, Prog.pure_eq_ret]
  iintro ⟨#Hlv, Hx, ⟨%f, %hf, Ho⟩, ⟨%t, Ht⟩, Hb, Hin, Hout, %W', %hW', HO⟩
  ihave Hx := (split_rows d L X k).1 $$ Hx
  icases Hx with ⟨Hxk, Hxr⟩
  -- the fetch of the block's token rows
  iapply (Transfers.wp_dmaLocal (countersEmb (U := UU)) 𝒱₀ (thr d L) none (src := inRows L k) (dst := sT) (q := fullShare)
    (fs := X) (fd := t) (Sd := Finset.univ) (none : HIx 1) (sT.view.dmaCredit) rfl (View.dmaCredit_pos _ (by decide)) (Finset.subset_univ _))
    $$ [Hxk Ht Hin]
  · isplitl [Hxk]; · iexact Hxk
    isplitl [Ht]; · iexact Ht
    iexact Hin
  iintro Hfl
  iapply (Transfers.wp_waitLocalO (countersEmb (U := UU)) 𝒱₀ (thr d L) none (none : HIx 1) (N := sT.view.dmaCredit) rfl) $$ [Hfl HO]
  · isplitl [Hfl]; · iexact Hfl
    isplitl [HO]; · iexact HO
    iapply ((K (F := F)).mayWait_none (SemLoc.dma cc0_scoped0.sem) hO); iexact Hlv
  iintro ⟨⟨Ht, Hxk⟩, Hin, HO⟩
  ihave Ht := (Entails.of_eq (show ((sT.view.loc (thr d L) ↦{fullShare}
      (sT.view.write (Elt F) t (tokens L X k) Finset.univ)) : sProp 𝕄) = tokPts d L (tokens L X k) from
        congrArg (fun g : Vec F S16x200 .i32 => (sT.view.loc (thr d L) ↦{fullShare} g : sProp 𝕄)) (View.write_whole_univ _ _ _))) $$ Ht
  ihave Hx := (split_rows d L X k).2 $$ [Hxk Hxr]
  · isplitl [Hxk] <;> iassumption
  have htok : ∀ j, (tokens L X k j).toNat < 4224 := fun j => by rw [tokens_at]; exact hX _
  -- the count
  iapply (wp_countLoop d L (tokens L X k) htok 0#32) $$ [Ht Hb]
  · isplitl [Ht] <;> iassumption
  iintro %acc1 ⟨Ht, Hb⟩
  -- the block's histograms written out
  ihave Hb := (Entails.of_eq (pts_hist (F := F) d L _).symm) $$ Hb
  iapply (Transfers.wp_dmaLocal (countersEmb (U := UU)) 𝒱₀ (thr d L) none (src := sB) (dst := outRows L k) (q := fullShare)
    (fs := histAt (tokens L X k) 200) (fd := f) (Sd := oTile (tileNo L)) (none : HIx 1) ((outRows L k).view.dmaCredit) rfl
    (View.dmaCredit_pos _ (by decide)) (outRows_sub L k)) $$ [Hb Ho Hout]
  · isplitl [Hb]; · iexact Hb
    isplitl [Ho]; · iexact Ho
    iexact Hout
  iintro Hfl
  iapply (Transfers.wp_waitLocalO (countersEmb (U := UU)) 𝒱₀ (thr d L) none (none : HIx 1) (N := (outRows L k).view.dmaCredit) rfl) $$ [Hfl HO]
  · isplitl [Hfl]; · iexact Hfl
    isplitl [HO]; · iexact HO
    iapply ((K (F := F)).mayWait_none (SemLoc.dma cc0_scoped1.sem) hO); iexact Hlv
  iintro ⟨⟨Ho, Hb⟩, Hout, HO⟩
  ihave Hb := (Entails.of_eq (pts_hist (F := F) d L _)) $$ Hb
  -- the histogram cleared
  iapply (wp_clearLoop d L (tokens L X k) htok 0#32) $$ [Ht Hb]
  · isplitl [Ht] <;> iassumption
  iintro %acc2 ⟨Ht, Hb⟩
  rw [wp_ret]; imodintro
  isplitr; · iexact Hlv
  isplitl [Hx]; · iexact Hx
  isplitl [Ho]
  · iexists ((outRows L k).view.write (Elt F) f (histAt (tokens L X k) 200) Finset.univ)
    isplitr
    · ipureintro; exact done_write L X k f hf
    · iexact Ho
  isplitl [Ht]; · iexists (tokens L X k); iexact Ht
  isplitl [Hb]; · iexact Hb
  isplitl [Hin]; · iexact Hin
  isplitl [Hout]; · iexact Hout
  iexists (insert (SemLoc.dma cc0_scoped1.sem, (none : HIx 1)) (insert (SemLoc.dma cc0_scoped0.sem, (none : HIx 1)) W'))
  isplitr
  · ipureintro; exact insert_waits (insert_waits hW' _) _
  iexact HO

end Cert.KernelIdeal.Proved
-- ==== Proof.KernelIdealTile.lean ====
/-
  The task of one tile: clear the histogram scratch, then count and write out its six blocks. The rows it owns of
  the histogram array end at the histograms of the token rows.
-/
module

public import proofs.«01_k».proof.Proof.KernelIdealBlock

@[expose] public section

noncomputable section

namespace Cert.KernelIdeal.Proved

open Cert.KernelIdeal Cert.KernelIdeal.Gen Cert.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords)

/-- The tile's two transfer semaphores among its own. -/
theorem ownSems0_V :
    (ownSems0 (thr d L) : sProp 𝕄)
      = iprop(semVal (inCell d (cV L) (jV L)) 0 ∗ semVal (outCell d (cV L) (jV L)) 0
          ∗ bigSep (((ownCells (thr d L)).erase (inCell d (cV L) (jV L))).erase (outCell d (cV L) (jV L))) fun g => semVal g 0) := by
  unfold SparseCore.Cfg.ownSems0
  rw [SparseCore.bigSep_erase' ((mem_ownCells (g := inCell d (cV L) (jV L))).mpr ⟨rfl, by
      show (SemLoc.dma cc0_scoped0.sem : SemLoc sig).isScoped .scVector = true; decide⟩),
    SparseCore.bigSep_erase' (Finset.mem_erase.mpr ⟨by simp [inCell, outCell]; decide, (mem_ownCells (g := outCell d (cV L) (jV L))).mpr ⟨rfl, by
      show (SemLoc.dma cc0_scoped1.sem : SemLoc sig).isScoped .scVector = true; decide⟩⟩)]

/-- The tile's two scratch arrays among its own buffers. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The vector of zeros the clearing loops store. -/
theorem pay1_at (x : S16.Idx) : (k0_pay1 (F := F)) x = zeroF := rfl

variable (X : Vec F S3072x200 .i32) (O : CellTallies nD τ sig (HIx 1)) (W : Waits sig (HIx 1))

/-- The tile's part of the two arrays before its task: its token rows, and its histogram rows at some contents. -/
abbrev goPts (n : ℕ) : sProp 𝕄 := iprop((xLoc d ↦[xTile n]{fullShare} X) ∗ ∃ f : Vec F S3072x4224 .f32, oLoc d ↦[oTile n]{fullShare} f)
/-- The same after its task: the histogram rows hold the histograms. -/
abbrev donePts (n : ℕ) : sProp 𝕄 := iprop((xLoc d ↦[xTile n]{fullShare} X) ∗ oLoc d ↦[oTile n]{fullShare} hist X)

/-- The task's program. -/
abbrev tileProg : Prog (TpuEff nD τ sig (Elt F) Λ₀ (.scVector ((L 0).castLE hcore0) ((L 1).castLE hsub0))) PUnit :=
  cc0__sc_hist_body L xV (Memref.isWhole_whole _) oV (Memref.isWhole_whole _) sT (Memref.isWhole_whole _) sB (Memref.isWhole_whole _)
    cc0_scoped0 cc0_scoped1

/-- A histogram scratch with every row cleared is the empty histogram. -/
theorem cleared_all : cleared d L 16 0 ⊢ binPts (F := F) d L zeroBins := by
  unfold cleared
  iintro ⟨%f, %hf, H⟩
  have hz : f = zeroBins := by
    funext j
    exact hf j (.inl (show (j 0).val < 16 from (j 0).isLt))
  subst hz
  iexact H

set_option maxHeartbeats 1000000 in
theorem wp_part1 (Q : (Σ' (v1 : BitVec 32) (v2 : IVec S16 32) (v3 : FVec F S16 .f32) (v4 : FVec F S16 .f32), BitVec 32) → sProp 𝕄) :
    cleared d L 0 0 ⊢ iprop((∀ v1, cleared (F := F) d L 7 0 -∗ Q ⟨v1, lanes, k0_pay1, k0_pay2, 0#32⟩)
      -∗ wp frame (wpE (defs₀ (F := F)) 𝒱₀ (thr d L) none) Set.univ
        (k0_part1 L xV (Memref.isWhole_whole _) oV (Memref.isWhole_whole _) sT (Memref.isWhole_whole _) sB (Memref.isWhole_whole _) cc0_scoped0 cc0_scoped1) Q) := by
  rw [k0_part1_eq_skeleton]; unfold k0_part1_skel
  simp only [Prog.pure_eq_ret]
  iintro H HQ
  iapply (wp_zeroRow d L 0 k0_off1 k0_off1_inb k0_off1_eq (k0_pay1 (F := F)) pay1_at 0#32) $$ H
  iintro %a1 H
  iapply (wp_zeroRow d L 1 k0_off2 k0_off2_inb k0_off2_eq (k0_pay1 (F := F)) pay1_at 0#32) $$ H
  iintro %a2 H
  iapply (wp_zeroRow d L 2 k0_off3 k0_off3_inb k0_off3_eq (k0_pay1 (F := F)) pay1_at 0#32) $$ H
  iintro %a3 H
  iapply (wp_zeroRow d L 3 k0_off4 k0_off4_inb k0_off4_eq (k0_pay1 (F := F)) pay1_at 0#32) $$ H
  iintro %a4 H
  iapply (wp_zeroRow d L 4 k0_off5 k0_off5_inb k0_off5_eq (k0_pay1 (F := F)) pay1_at 0#32) $$ H
  iintro %a5 H
  iapply (wp_zeroRow d L 5 k0_off6 k0_off6_inb k0_off6_eq (k0_pay1 (F := F)) pay1_at 0#32) $$ H
  iintro %a6 H
  iapply (wp_zeroRow d L 6 k0_off7 k0_off7_inb k0_off7_eq (k0_pay1 (F := F)) pay1_at 0#32) $$ H
  iintro %a7 H
  rw [wp_ret]; imodintro
  iapply HQ $$ %_ H

set_option maxHeartbeats 1000000 in
theorem wp_part2 (Q : (Σ' (c0_i32_73 : BitVec 32) (c0_i32_74 : BitVec 32), BitVec 32) → sProp 𝕄) :
    cleared d L 7 0 ⊢ iprop((cleared (F := F) d L 15 0 -∗ Q ⟨0#32, 0#32, 1#32⟩)
      -∗ wp frame (wpE (defs₀ (F := F)) 𝒱₀ (thr d L) none) Set.univ
        (k0_part2 L xV (Memref.isWhole_whole _) oV (Memref.isWhole_whole _) sT (Memref.isWhole_whole _) sB (Memref.isWhole_whole _) cc0_scoped0 cc0_scoped1
          (k0_pay1 (F := F)) 0#32) Q) := by
  rw [k0_part2_eq_skeleton]; unfold k0_part2_skel
  simp only [Prog.pure_eq_ret]
  iintro H HQ
  iapply (wp_zeroRow d L 7 k0_off8 k0_off8_inb k0_off8_eq (k0_pay1 (F := F)) pay1_at 0#32) $$ H
  iintro %a1 H
  iapply (wp_zeroRow d L 8 k0_off9 k0_off9_inb k0_off9_eq (k0_pay1 (F := F)) pay1_at 0#32) $$ H
  iintro %a2 H
  iapply (wp_zeroRow d L 9 k0_off10 k0_off10_inb k0_off10_eq (k0_pay1 (F := F)) pay1_at 0#32) $$ H
  iintro %a3 H
  iapply (wp_zeroRow d L 10 k0_off11 k0_off11_inb k0_off11_eq (k0_pay1 (F := F)) pay1_at 0#32) $$ H
  iintro %a4 H
  iapply (wp_zeroRow d L 11 k0_off12 k0_off12_inb k0_off12_eq (k0_pay1 (F := F)) pay1_at 0#32) $$ H
  iintro %a5 H
  iapply (wp_zeroRow d L 12 k0_off13 k0_off13_inb k0_off13_eq (k0_pay1 (F := F)) pay1_at 0#32) $$ H
  iintro %a6 H
  iapply (wp_zeroRow d L 13 k0_off14 k0_off14_inb k0_off14_eq (k0_pay1 (F := F)) pay1_at 0#32) $$ H
  iintro %a7 H
  iapply (wp_zeroRow d L 14 k0_off15 k0_off15_inb k0_off15_eq (k0_pay1 (F := F)) pay1_at 0#32) $$ H
  iintro %a8 H
  rw [wp_ret]; imodintro
  iapply HQ $$ H

set_option maxHeartbeats 1000000 in
/-- The task on a tile: from its token rows and its histogram rows at any contents to those rows at their histograms. -/
theorem wp_tile (hF : (K (F := F)).Facts) (hO : ∀ g, O g none = 0) (hX : ∀ j, (X j).toNat < 4224) :
    iprop(levAts (K (F := F)).L (K (F := F)).lev ∗ goPts d X (tileNo L)
        ∗ scopedBufs (thr d L) ∗ scopedSems0 (thr d L) ∗ owes (thr d L) O W)
      ⊢ wp frame (wpE (defs₀ (F := F)) 𝒱₀ (thr d L) none) Set.univ (tileProg (F := F) L)
          fun _ => iprop(donePts d X (tileNo L) ∗ scopedBufs (thr d L) ∗ scopedSems0 (thr d L)
            ∗ ∃ W', ⌜∀ p ∈ W', p ∈ W ∨ p.2 = none⌝ ∗ owes (thr d L) O W') := by
  unfold tileProg
  rw [cc0__sc_hist_body_eq_skeleton]; unfold cc0__sc_hist_body_skel
  rw [(K (F := F)).scopedBufs_V hF d (cV L) (jV L), SparseCore.Cfg.scopedSems0_V (Val := Elt F) d (cV L) (jV L), ownSems0_V, ownBufs_V]
  iintro ⟨#Hlv, ⟨Hx, ⟨%f, Ho⟩⟩, ⟨⟨%t, Ht⟩, ⟨%b, Hb⟩, Hbufs⟩, ⟨Hin, Hout, Hsems⟩, HO⟩
  ihave Hb := (show ((thr d L).loc cc0_scratch1 ↦{fullShare} b : sProp 𝕄) ⊢ cleared d L 0 0 from by
    unfold cleared
    iintro H
    iexists b
    isplitr
    · ipureintro; intro j hj; omega
    · iexact H) $$ Hb
  rw [wp_bind]
  iapply (wp_part1 d L) $$ Hb
  iintro %v1 Hb
  dsimp only
  rw [wp_bind]
  iapply (wp_part2 d L) $$ Hb
  iintro Hb
  dsimp only
  iapply (wp_zeroRow d L 15 k0_off16 k0_off16_inb k0_off16_eq (k0_pay1 (F := F)) pay1_at 0#32) $$ Hb
  iintro %a Hb
  ihave Hb := (cleared_all (F := F) d L) $$ Hb
  iapply (Scf.wp_for_bind frame (wpE (defs₀ (F := F)) 𝒱₀ (thr d L) none) Set.univ k0_t17_loop.lb k0_t17_loop.ub k0_t17_loop.st k0_t17_ok 0#32
    (blockBody (F := F) L) (fun n _ => blockInv (F := F) d L X O W n) (wp_block d L X O W hO hX)) $$ [Hx Ho Ht Hb Hin Hout HO]
  · unfold blockInv
    isplitr; · iexact Hlv
    isplitl [Hx]; · iexact Hx
    isplitl [Ho]
    · iexists f
      isplitr
      · ipureintro; intro j hj hlt
        have := mem_oTile.mp hj
        omega
      · iexact Ho
    isplitl [Ht]; · iexists t; iexact Ht
    isplitl [Hb]; · iexact Hb
    isplitl [Hin]; · iexact Hin
    isplitl [Hout]; · iexact Hout
    iexists W
    isplitr
    · ipureintro; exact fun p hp => .inl hp
    · iexact HO
  iintro %a' H
  ihave H := (show blockInv d L X O W k0_t17_loop.trips ⊢ blockInv (F := F) d L X O W 6 from by rw [block_trips]) $$ H
  unfold blockInv
  icases H with ⟨-, Hx, ⟨%f', %hf', Ho⟩, ⟨%t', Ht⟩, Hb, Hin, Hout, HO⟩
  simp only [Prog.pure_eq_ret]
  rw [wp_ret]; imodintro
  isplitl [Hx Ho]
  · isplitl [Hx]; · iexact Hx
    ihave Ho := (Entails.of_eq (pointsTo_congr (ℓ := oLoc d) (q := fullShare) (I := oTile (tileNo L)) (f := f') (g := hist X) (fun j hj => hf' j hj (by
      have := mem_oTile.mp hj
      omega)))) $$ Ho
    iexact Ho
  isplitl [Ht Hb Hbufs]
  · isplitl [Ht]; · iexists t'; iexact Ht
    isplitl [Hb]; · iexists zeroBins; iexact Hb
    iexact Hbufs
  isplitl [Hin Hout Hsems]
  · isplitl [Hin]; · iexact Hin
    isplitl [Hout]; · iexact Hout
    iexact Hsems
  iexact HO

end Cert.KernelIdeal.Proved
-- ==== Proof.KernelIdealLaunch.lean ====
/-
  The launch of the SparseCore call: what its handshakes carry, each tile's task as the launch theorem asks for it,
  the two arrays cut into the thirty-two tiles' rows, and the ghost state the program starts from.
-/
module

public import proofs.«01_k».proof.Proof.KernelIdealTile
public import proofs.«01_k».proof.Proof.Gen.KernelIdeal.Launch

@[expose] public section

noncomputable section

namespace Cert.KernelIdeal.Proved

open Cert.KernelIdeal Cert.KernelIdeal.Gen Cert.Hist

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (X : Dev nD → Vec F S3072x200 .i32)

/-! ## What the handshakes carry -/

/-- The number of tile `i` of core `c`. -/
abbrev tileAt (c i : ℕ) : ℕ := 2 * i + c

/-- A core is handed its sixteen tiles' rows, every tile its own, and brings them back with the histograms in place. -/
def P : (K (F := F)).Pay (nD := nD) (Val := Elt F) (Name := ℕ) (U := UU) where
  st := fun q d c => match q with
    | 0 => bigSep Finset.univ fun i : Fin ((K (F := F)).nSub 0) => goPts d (X d) (tileAt c.val i.val)
  dn := fun q d c => match q with
    | 0 => bigSep Finset.univ fun i : Fin ((K (F := F)).nSub 0) => donePts d (X d) (tileAt c.val i.val)
  go := fun q d c i => match q with | 0 => goPts d (X d) (tileAt c.val i.val)
  td := fun q d c i => match q with | 0 => donePts d (X d) (tileAt c.val i.val)
  x := fun _ _ => iprop(emp)

instance P_storable : (P (F := F) X).IsStorable where
  st q d c := match q with
    | 0 => (inferInstance : BI.Storable (upEmb : UEmb _ 𝕄)
        (bigSep Finset.univ fun i : Fin ((K (F := F)).nSub 0) => goPts d (X d) (tileAt c.val i.val)))
  dn q d c := match q with
    | 0 => (inferInstance : BI.Storable (upEmb : UEmb _ 𝕄)
        (bigSep Finset.univ fun i : Fin ((K (F := F)).nSub 0) => donePts d (X d) (tileAt c.val i.val)))
  go q d c i := match q with
    | 0 => (inferInstance : BI.Storable (upEmb : UEmb _ 𝕄) (goPts d (X d) (tileAt c.val i.val)))
  td q d c i := match q with
    | 0 => (inferInstance : BI.Storable (upEmb : UEmb _ 𝕄) (donePts d (X d) (tileAt c.val i.val)))

/-- A core's rows are its tiles' rows. -/
theorem vecSplit : (K (F := F)).VecSplit' (P X) 0 := by
  intro d c
  show (bigSep Finset.univ fun i : Fin ((K (F := F)).nSub 0) => goPts d (X d) (tileAt c.val i.val)) ⊢ |={Set.univ}=> iprop(
    (bigSep Finset.univ fun i : Fin ((K (F := F)).nSub 0) => goPts d (X d) (tileAt c.val i.val))
      ∗ ((bigSep Finset.univ fun i : Fin ((K (F := F)).nSub 0) => donePts d (X d) (tileAt c.val i.val))
          -∗ bigSep Finset.univ fun i : Fin ((K (F := F)).nSub 0) => donePts d (X d) (tileAt c.val i.val)))
  iintro H; imodintro
  isplitl [H]; · iexact H
  iintro H; iexact H

/-! ## The tiles' tasks -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => tileProg (F := F) (coordsV c s)) ⟨⟩ c s := rfl

omit [FloatOps F] in
/-- What a tile waited on: only its own transfers, so nothing beyond what the launch theorem allows. -/
theorem waits_only_own {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') :=
  sep_mono_right (sep_mono_right (sep_mono_right (exists_mono fun _ =>
    sep_mono_left (Laws.pure_mono fun h p hp => (h p hp).imp_right Or.inl))))

omit [FloatOps F] in
/-- The second of three conjuncts dropped. -/
theorem drop_second {A B C : sProp 𝕄} : iprop(A ∗ B ∗ C) ⊢ iprop(A ∗ C) :=
  sep_mono_right sep_elim_right

set_option maxRecDepth 1024 in
/-- Every tile's task, as the launch theorem asks for it. -/
theorem tileObl (hX : ∀ d j, (X d j).toNat < 4224) : (K (F := F)).TileObl (D (F := F)) 𝒱 (P X) v₀ 0 := by
  intro d c i O W hO _ _
  simp only [show (P X).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine BI.Entails.trans drop_second ?_
  exact (wp_tile d (coordsV ⟨_, hc.1⟩ ⟨_, hc.2⟩) (X d) O W facts hO (hX d)).trans (wp_mono frame _ _ fun _ => waits_only_own)

/-! ## The two arrays cut into tiles -/

/-- A tile of the launch: its core and its place on it. -/
abbrev Tiles : Type := (_ : Fin ((K (F := F)).nCore 0)) × Fin ((K (F := F)).nSub 0)

/-- The number of a tile. -/
def numOf (p : Tiles (F := F)) : ℕ := tileAt p.1.val p.2.val

theorem numOf_inj {p p' : Tiles (F := F)} (h : numOf p = numOf p') : p = p' := by
  obtain ⟨⟨a, ha⟩, ⟨b, hb⟩⟩ := p; obtain ⟨⟨a', ha'⟩, ⟨b', hb'⟩⟩ := p'
  have ha2 : a < 2 := ha
  have ha2' : a' < 2 := ha'
  simp only [numOf, tileAt] at h
  have e1 : a = a' := by omega
  have e2 : b = b' := by omega
  subst e1; subst e2; rfl

/-- Every row below 3072 is some tile's. -/
theorem numOf_surj (n : ℕ) (h : n < 3072) : ∃ p : Tiles (F := F), n / 96 = numOf p :=
  ⟨⟨⟨n / 96 % 2, Nat.mod_lt _ Nat.two_pos⟩, ⟨n / 96 / 2, show n / 96 / 2 < 16 by omega⟩⟩, by
    simp only [numOf, tileAt]; omega⟩

theorem xTiles_disjoint : ∀ p ∈ (Finset.univ : Finset (Tiles (F := F))), ∀ p' ∈ (Finset.univ : Finset (Tiles (F := F))),
    p ≠ p' → Disjoint (xTile (numOf p)) (xTile (numOf p')) := by
  intro p _ p' _ h
  refine Finset.disjoint_left.mpr fun j h1 h2 => h (numOf_inj ?_)
  rw [mem_xTile] at h1 h2; exact h1.symm.trans h2

theorem oTiles_disjoint : ∀ p ∈ (Finset.univ : Finset (Tiles (F := F))), ∀ p' ∈ (Finset.univ : Finset (Tiles (F := F))),
    p ≠ p' → Disjoint (oTile (numOf p)) (oTile (numOf p')) := by
  intro p _ p' _ h
  refine Finset.disjoint_left.mpr fun j h1 h2 => h (numOf_inj ?_)
  rw [mem_oTile] at h1 h2; exact h1.symm.trans h2

theorem xTiles_cover : (Finset.univ : Finset (Tiles (F := F))).biUnion (fun p => xTile (numOf p)) = Finset.univ := by
  refine Finset.eq_univ_iff_forall.mpr fun j => ?_
  obtain ⟨p, hp⟩ := numOf_surj (F := F) (j 0).val (j 0).isLt
  exact Finset.mem_biUnion.mpr ⟨p, Finset.mem_univ _, mem_xTile.mpr hp⟩

theorem oTiles_cover : (Finset.univ : Finset (Tiles (F := F))).biUnion (fun p => oTile (numOf p)) = Finset.univ := by
  refine Finset.eq_univ_iff_forall.mpr fun j => ?_
  obtain ⟨p, hp⟩ := numOf_surj (F := F) (j 0).val (j 0).isLt
  exact Finset.mem_biUnion.mpr ⟨p, Finset.mem_univ _, mem_oTile.mpr hp⟩

/-- The token array, tile by tile. -/
theorem xPts_tiles (d : Dev nD) (f : Buf (Elt F) (xLoc d)) :
    (xLoc d ↦{fullShare} f : sProp 𝕄) = bigSep Finset.univ fun p : Tiles (F := F) => xLoc d ↦[xTile (numOf p)]{fullShare} f := by
  rw [← pointsTo_biUnion Finset.univ (ℓ := xLoc d) (fun p => xTile (numOf p)) xTiles_disjoint, xTiles_cover]

/-- The histogram array, tile by tile. -/
theorem oPts_tiles (d : Dev nD) (f : Buf (Elt F) (oLoc d)) :
    (oLoc d ↦{fullShare} f : sProp 𝕄) = bigSep Finset.univ fun p : Tiles (F := F) => oLoc d ↦[oTile (numOf p)]{fullShare} f := by
  rw [← pointsTo_biUnion Finset.univ (ℓ := oLoc d) (fun p => oTile (numOf p)) oTiles_disjoint, oTiles_cover]

/-- The two arrays whole are what the call takes. -/
theorem st_intro (d : Dev nD) (f : Buf (Elt F) (oLoc d)) :
    (iprop((xLoc d ↦{fullShare} X d) ∗ oLoc d ↦{fullShare} f) : sProp 𝕄)
      ⊢ bigSep Finset.univ fun c : Fin ((K (F := F)).nCore 0) => (P X).st 0 d c := by
  rw [xPts_tiles, oPts_tiles, ← bigSep_sep']
  refine (bigSep_mono (Ψ := fun p : Tiles (F := F) => goPts d (X d) (numOf p)) fun p _ => ?_).trans
    (Entails.of_eq (Pipeline.bigSep_univ_sigma _))
  show (iprop((xLoc d ↦[xTile (numOf p)]{fullShare} X d) ∗ oLoc d ↦[oTile (numOf p)]{fullShare} f) : sProp 𝕄) ⊢ goPts d (X d) (numOf p)
  iintro ⟨Hx, Ho⟩
  isplitl [Hx]; · iexact Hx
  iexists f; iexact Ho

/-- What the call brings back: the tokens unchanged, the histograms of all rows. -/
theorem dn_elim (d : Dev nD) :
    (bigSep Finset.univ fun c : Fin ((K (F := F)).nCore 0) => (P X).dn 0 d c)
      ⊢ (iprop((xLoc d ↦{fullShare} X d) ∗ oLoc d ↦{fullShare} hist (X d)) : sProp 𝕄) := by
  rw [xPts_tiles, oPts_tiles, ← bigSep_sep']
  exact Entails.of_eq (Pipeline.bigSep_univ_sigma (fun p : Tiles (F := F) => donePts d (X d) (numOf p))).symm

/-! ## The ghost state at the launch -/

/-- The pipeline reads no table. -/
abbrev adm : (p : Fin 1) → (pcfgs (F := F) p).Adm := fun p => (cfgs p).toPCfg_adm

/-- The handshakes' rounds, the pipeline's, and no transfer counted yet. -/
def u₀ : UU :=
  (initOf (K (F := F)).hsCells (K (F := F)).hsToks, (initOf (Pipeline.cells cfgs cellOf_inj) (Pipeline.launchToks cfgs cellOf_inj), 1))

/-- The pipeline's share of the ghost state on a device: what its region starts from. -/
abbrev G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
/-- A family over the one pipeline is its member. -/
theorem at_zero (Φ : Dev nD → Fin 1 → sProp 𝕄) :
    (bigSep Finset.univ fun d : Dev nD => bigSep Finset.univ fun p : Fin 1 => Φ d p) ⊢ bigSep Finset.univ fun d : Dev nD => Φ d 0 :=
  Entails.of_eq (bigSep_congr fun _ _ => bigSep_univ_of_subsingleton (0 : Fin 1))

/-- The element dealt out: the handshakes' to the launch theorem, the pipeline's to the TensorCores. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P X).x q thr) := by
  have hE (s : Finset (Thread nD τ)) : (bigSep s fun _ => (iprop(emp) : sProp 𝕄)) = iprop(emp) := bigSep_emp_const s
  have hE' : (bigSep (Finset.univ : Finset (Fin 1)) fun _ => (iprop(emp) : sProp 𝕄)) = iprop(emp) := bigSep_emp_const _
  have hEP : (Emb.inl : Emb UP (UP × Counters)).trans embR = (EP : Emb UP 𝕄) := rfl
  have hx : (bigSep Finset.univ fun thr : Thread nD τ => bigSep Finset.univ fun q : Fin 1 => (P X).x q thr) = (iprop(emp) : sProp 𝕄) := by
    show (bigSep Finset.univ fun _ : Thread nD τ => bigSep Finset.univ fun _ : Fin 1 => (iprop(emp) : sProp 𝕄)) = _
    rw [hE', hE]
  have hdeal := Pipeline.fund_ghost (nD := nD) (τ := τ) (Ix := HIx 1) (Val := Elt F) (Name := ℕ) (U := UU) (Lvl := ℕ)
    (Pipeline.pin (pcfgs (F := F)) adm) EP cellOf_inj
  unfold u₀
  rw [hx]
  iintro Hu
  ihave H := (ownU_pair _ _) $$ Hu
  icases H with ⟨HH, HR⟩
  ihave H := (own_pair_emb _ _ _) $$ HR
  icases H with ⟨HP, -⟩
  rw [hEP]
  imod hdeal $$ HP with H
  icases H with ⟨Hc, Ht⟩
  imodintro
  isplitl [HH]; · iexact HH
  isplitl
  · rw [bigSep_sep']
    isplitl [Hc]
    · iapply (at_zero fun d p => Pipeline.cellsGhost (Pipeline.pin (pcfgs (F := F)) adm) EP p d); iexact Hc
    · iapply (at_zero fun d p => Pipeline.toksInit (Pipeline.pin (pcfgs (F := F)) adm) EP p d); iexact Ht
  iempintro

end Cert.KernelIdeal.Proved

end
-- ==== Proof.KernelIdealMlp.lean ====
/-
  The TensorCore kernel at one grid point: from its six input blocks it stores one block of the result, the inputs
  kept. What the pipeline's region is entered with and what it leaves, from any contents of the arrays.
-/
module

public import proofs.«01_k».proof.Proof.KernelIdealLaunch
public import proofs.«01_k».proof.Proof.WholeBlock
public import proofs.«01_k».proof.Proof.Gen.KernelIdeal.Points
public import Idealize.ShloMosaic.Lib.Pipeline.RegionArraysS
public import Idealize.ShloMosaic.Lib.Pipeline.ValueKit.Geometry

@[expose] public section

noncomputable section

namespace Cert.KernelIdeal.Proved

open Cert.KernelIdeal Cert.KernelIdeal.Gen Cert.Hist Cert.WholeBlock

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig (HIx 1) (Elt F) ℕ UU ℕ

/-- The block of the result computed from the blocks of the operands: histograms, the two halves of the first
    layer's weights, its bias, the second layer's weights, its bias. -/
def mlpBlock (x0 : Vec F S256x4224 .f32) (x1 x2 : Vec F S4224x768 .bf16) (x3 : Vec F S1x768 .f32) (x4 : Vec F S768x256 .f32)
    (x5 : Vec F S1x256 .f32) : FVec F S256x256 .f32 :=
  k1_pay1 (k1_pay2 x0 x1 x2 x3 x4) (k1_pay3 x5)

/-- The kernel on any staging blocks: it stores `mlpBlock` of the six it reads. -/
theorem wp_mlp (d : Dev nD) (i : grid1.Coords)
    (M0 : Memref sig .tc .vmem S256x4224 .f32) (h0 : M0.IsWhole) (M1 : Memref sig .tc .vmem S4224x768 .bf16) (h1 : M1.IsWhole)
    (M2 : Memref sig .tc .vmem S4224x768 .bf16) (h2 : M2.IsWhole) (M3 : Memref sig .tc .vmem S1x768 .f32) (h3 : M3.IsWhole)
    (M4 : Memref sig .tc .vmem S768x256 .f32) (h4 : M4.IsWhole) (M5 : Memref sig .tc .vmem S1x256 .f32) (h5 : M5.IsWhole)
    (M6 : Memref sig .tc .vmem S256x256 .f32) (h6 : M6.IsWhole)
    (x0 : Vec F S256x4224 .f32) (x1 x2 : Vec F S4224x768 .bf16) (x3 : Vec F S1x768 .f32) (x4 : Vec F S768x256 .f32)
    (x5 : Vec F S1x256 .f32) (x6 : Vec F S256x256 .f32) (Q : PUnit → sProp 𝕄) :
    iprop(owns (d : Thread nD τ) M0 fullShare x0 ∗ owns (d : Thread nD τ) M1 fullShare x1 ∗ owns (d : Thread nD τ) M2 fullShare x2
        ∗ owns (d : Thread nD τ) M3 fullShare x3 ∗ owns (d : Thread nD τ) M4 fullShare x4 ∗ owns (d : Thread nD τ) M5 fullShare x5
        ∗ owns (d : Thread nD τ) M6 fullShare x6
        ∗ (iprop(owns (d : Thread nD τ) M0 fullShare x0 ∗ owns (d : Thread nD τ) M1 fullShare x1 ∗ owns (d : Thread nD τ) M2 fullShare x2
            ∗ owns (d : Thread nD τ) M3 fullShare x3 ∗ owns (d : Thread nD τ) M4 fullShare x4 ∗ owns (d : Thread nD τ) M5 fullShare x5
            ∗ owns (d : Thread nD τ) M6 fullShare (mlpBlock x0 x1 x2 x3 x4 x5)) -∗ Q ⟨⟩))
      ⊢ wp frame (wpE (defs₀ (F := F)) 𝒱₀ (d : Thread nD τ) none) Set.univ
          (cc1__mlp_body (F := F) i M0 h0 M1 h1 M2 h2 M3 h3 M4 h4 M5 h5 M6 h6) Q := by
  rw [cc1__mlp_body_eq_skeleton]
  unfold cc1__mlp_body_skel
  rw [k1_part1_eq_skeleton]
  unfold k1_part1_skel
  simp only [Prog.lift, Prog.bind_op, Prog.bind_ret, Prog.pure_eq_ret]
  iintro ⟨H0, H1, H2, H3, H4, H5, H6, Hk⟩
  iapply (wp_load_block 𝒱₀ (d : Thread nD τ) none Set.univ M0 (by decide) _ _ _ x0 _) $$ H0
  iintro H0
  iapply (wp_load_block 𝒱₀ (d : Thread nD τ) none Set.univ M1 (by decide) _ _ _ x1 _) $$ H1
  iintro H1
  iapply (wp_load_block 𝒱₀ (d : Thread nD τ) none Set.univ M2 (by decide) _ _ _ x2 _) $$ H2
  iintro H2
  iapply (wp_load_block 𝒱₀ (d : Thread nD τ) none Set.univ M3 (by decide) _ _ _ x3 _) $$ H3
  iintro H3
  iapply (wp_load_block 𝒱₀ (d : Thread nD τ) none Set.univ M4 (by decide) _ _ _ x4 _) $$ H4
  iintro H4
  iapply (wp_load_block 𝒱₀ (d : Thread nD τ) none Set.univ M5 (by decide) _ _ _ x5 _) $$ H5
  iintro H5
  iapply (wp_load_block 𝒱₀ (d : Thread nD τ) none Set.univ M6 (by decide) _ _ _ x6 _) $$ H6
  iintro H6
  iapply (wp_store_block 𝒱₀ (d : Thread nD τ) none Set.univ M6 (by decide) _ _ _ _ _ x6 _) $$ H6
  iintro H6
  rw [wp_ret]; imodintro
  iapply Hk
  isplitl [H0]; · iexact H0
  isplitl [H1]; · iexact H1
  isplitl [H2]; · iexact H2
  isplitl [H3]; · iexact H3
  isplitl [H4]; · iexact H4
  isplitl [H5]; · iexact H5
  iexact H6

/-! ## The proof data, from any contents of the arrays -/

variable (V : Dev nD → Valuation τ sig (Elt F))

/-- What a window's fetch stages at a grid point. -/
abbrev stg (d : Dev nD) (w : Fin cfg1.W) (t : Fin cfg1.N) : ((cfg1.win w).xblock (cfg1.grid.coords t)).Idx → Elt F (cfg1.win w).elt :=
  ((cfg1.win w).blk t).view.read (Elt F) (V d (Proc.devRef .tc (Pipeline.arrRef spec1 w)))

/-- The block of the result a grid point computes. -/
abbrev outBlk (d : Dev nD) (t : Fin cfg1.N) : FVec F S256x256 .f32 :=
  mlpBlock (stg V d 0 t) (stg V d 1 t) (stg V d 2 t) (stg V d 3 t) (stg V d 4 t) (stg V d 5 t)

/-- The pipeline's proof data: the arrays at `V`, each input block as fetched, the result's block as computed; nothing
    owed, nothing carried between the points. -/
def dat (d : Dev nD) : Dat τ (Elt F) (HIx 1) ℕ UU ℕ cfg1 d where
  A w := V d (Proc.devRef .tc (Pipeline.arrRef spec1 w))
  after w t := match w with
    | ⟨0, _⟩ => stg V d 0 t
    | ⟨1, _⟩ => stg V d 1 t
    | ⟨2, _⟩ => stg V d 2 t
    | ⟨3, _⟩ => stg V d 3 t
    | ⟨4, _⟩ => stg V d 4 t
    | ⟨5, _⟩ => stg V d 5 t
    | ⟨6, _⟩ => outBlk V d t
  Φ _ := Pipeline.scopedRest (Ix := HIx 1) (Name := ℕ) (U := UU) (Lvl := ℕ) (Val := Elt F) spec1 d
  q _ := fullShare
  owed _ := 0

theorem before0 (d : Dev nD) (t : Fin cfg1.N) (x) : (dat V d).before 0 t x = stg V d 0 t :=
  (dat V d).before_in_eq_fetched 0 rfl (fun _ => rfl) (fun _ _ _ => rfl) (fun _ => rfl) t x
theorem before1 (d : Dev nD) (t : Fin cfg1.N) (x) : (dat V d).before 1 t x = stg V d 1 t :=
  (dat V d).before_in_eq_fetched 1 rfl (fun _ => rfl) (fun _ _ _ => rfl) (fun _ => rfl) t x
theorem before2 (d : Dev nD) (t : Fin cfg1.N) (x) : (dat V d).before 2 t x = stg V d 2 t :=
  (dat V d).before_in_eq_fetched 2 rfl (fun _ => rfl) (fun _ _ _ => rfl) (fun _ => rfl) t x
theorem before3 (d : Dev nD) (t : Fin cfg1.N) (x) : (dat V d).before 3 t x = stg V d 3 t :=
  (dat V d).before_in_eq_fetched 3 rfl (fun _ => rfl) (fun _ _ _ => rfl) (fun _ => rfl) t x
theorem before4 (d : Dev nD) (t : Fin cfg1.N) (x) : (dat V d).before 4 t x = stg V d 4 t :=
  (dat V d).before_in_eq_fetched 4 rfl (fun _ => rfl) (fun _ _ _ => rfl) (fun _ => rfl) t x
theorem before5 (d : Dev nD) (t : Fin cfg1.N) (x) : (dat V d).before 5 t x = stg V d 5 t :=
  (dat V d).before_in_eq_fetched 5 rfl (fun _ => rfl) (fun _ _ _ => rfl) (fun _ => rfl) t x

/-- At every grid point the kernel leaves the input blocks as fetched and the result's block computed from them. -/
theorem body_obligation (d : Dev nD) : BodyObligation (dat V d) (defs₀ (F := F)) 𝒱₀ (none : HIx 1) Set.univ := fun t => by
  rw [bigSep_W1, bigSep_W1]
  rw [show (dat V d).Φ t.succ = (dat V d).Φ t.castSucc from rfl,
    show (dat V d).owesAt (none : HIx 1) t.succ = (dat V d).owesAt (none : HIx 1) t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩⟩
  rw [before0 V d t d0, before1 V d t d1, before2 V d t d2, before3 V d t d3, before4 V d t d4, before5 V d t d5]
  iapply (wp_mlp d (grid1.coords t) _ _ _ _ _ _ _ _ _ _ _ _ _ _ (stg V d 0 t) (stg V d 1 t) (stg V d 2 t) (stg V d 3 t)
    (stg V d 4 t) (stg V d 5 t) ((dat V d).before 6 t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

end Cert.KernelIdeal.Proved

end
-- ==== Proof.KernelIdealRegion.lean ====
/-
  The TensorCore call: entered from every unscoped array held at any contents, left with the result's array at what the
  pipeline's blocks make of them and every other array as it was.
-/
module

public import proofs.«01_k».proof.Proof.KernelIdealMlp

@[expose] public section

noncomputable section

namespace Cert.KernelIdeal.Proved

open Cert.KernelIdeal Cert.KernelIdeal.Gen Cert.Hist

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig (HIx 1) (Elt F) ℕ UU ℕ

variable (V : Dev nD → Valuation τ sig (Elt F))

/-- The proof data of the program's one pipeline. -/
abbrev pdats : (p : Fin 1) → (d : Dev nD) → Dat τ (Elt F) (HIx 1) ℕ UU ℕ (Pipeline.pin (pcfgs (F := F)) adm p) d :=
  fun _ d => dat V d

/-- Nothing is owed to another core when the call runs, so its waits are below all that is owed. -/
theorem cut : Pipeline.LevelCut (pcfgs (F := F)) adm (none : HIx 1) ((K (F := F)).L (nD := nD)) (K (F := F)).lev 0 (fun _ => 0) (fun _ => 0) where
  hι _ _ _ := Finset.mem_univ _
  hιb _ _ _ := le_rfl
  hD _ _ _ h := absurd h (lt_irrefl _)

theorem kit : Pipeline.PLaunchFacts (nD := nD) (τ := τ) (pcfgs (F := F)) 0 := launch1.toP

theorem loose (d : Dev nD) : Pipeline.BodyObligationLoose (pdats V 0 d) (defs₀ (F := F)) 𝒱₀ (none : HIx 1) Set.univ :=
  (body_obligation V d).loose

theorem shares (d : Dev nD) (w) : (pdats V 0 d).share w = fullShare := (dat V d).share_full (fun _ => rfl) w

/-- The scratch the pipeline does not stage, which the body carries: none. -/
abbrev rest (d : Dev nD) : sProp 𝕄 := Pipeline.scopedRest (τ := τ) (Ix := HIx 1) (Name := ℕ) (U := UU) (Lvl := ℕ) (Val := Elt F) spec1 d

theorem rest_eq (d : Dev nD) : (Pipeline.scopedRest (τ := τ) (Ix := HIx 1) (Name := ℕ) (U := UU) (Lvl := ℕ) (Val := Elt F)
    (Pipeline.pin (pcfgs (F := F)) adm 0).spec d : sProp 𝕄) = rest d := rfl

theorem dat_rest (d : Dev nD) (t) : (dat V d).Φ t = rest d := rfl

theorem enter (d : Dev nD) : (iprop(Pipeline.scopedRest (τ := τ) (Ix := HIx 1) (Name := ℕ) (U := UU) (Lvl := ℕ) (Val := Elt F)
    (Pipeline.pin (pcfgs (F := F)) adm 0).spec d ∗ emp) : sProp 𝕄) ⊢ (dat V d).Φ 0 :=
  sep_elim_left.trans (Entails.of_eq ((rest_eq d).trans (dat_rest V d 0).symm))

theorem leave (d : Dev nD) : (dat V d).Φ (Fin.last cfg1.N)
    ⊢ (iprop(Pipeline.scopedRest (τ := τ) (Ix := HIx 1) (Name := ℕ) (U := UU) (Lvl := ℕ) (Val := Elt F)
      (Pipeline.pin (pcfgs (F := F)) adm 0).spec d ∗ emp) : sProp 𝕄) :=
  (Entails.of_eq ((dat_rest V d _).trans (rest_eq d).symm)).trans sep_emp_intro

/-- The region the call enters. -/
def reg : Pipeline.RegionSeg (pcfgs (F := F)) adm (pdats V) (none : HIx 1) defs₀ 𝒱₀ (K (F := F)).L (K (F := F)).lev 0 :=
  Pipeline.RegionSeg.ofHeldIn (pcfgs (F := F)) adm (pdats V) none defs₀ 𝒱₀ (K (F := F)).L (K (F := F)).lev 0 (fun _ => 0)
    (Pipeline.ucRefs τ sig) (fun _ => iprop(emp)) (fun _ => iprop(emp)) kit rfl (loose V)
    (fun _ _ => rfl) (fun _ => rfl) (shares V) (enter V) (leave V)
    (fun _ => 0) cut (fun _ => iprop(emp)) V (fun _ _ => rfl)

theorem arrs_sub : Pipeline.arrRefs (τ := τ) (pcfgs (F := F) 0).spec ⊆ Pipeline.ucRefs τ sig :=
  Pipeline.arrRefs_sub_ucRefs spec1 winFacts1.arr_unscoped

/-- What the arrays hold after the call. -/
abbrev afterCall (d : Dev nD) : Valuation τ sig (Elt F) := Pipeline.afterRegion (dat V d) (V d)

theorem reg_pre (d : Dev nD) :
    iprop(StableHlo.held (d.tc : Thread nD τ) (Pipeline.ucRefs τ sig) (V d)
        ∗ ((∃ W, owes (d.tc : Thread nD τ) (0 : CellTallies nD τ sig (HIx 1)) W) ∗ emp ∗ emp))
      ⊢ (reg V).pre d :=
  Pipeline.RegionSeg.ofHeldIn_pre (pcs := pcfgs (F := F)) (a := adm) (pdats := pdats V) (D := fun _ => 0) (W := V)
    (R := fun _ => iprop(emp)) (X := fun _ => iprop(emp)) (arrs_sub (F := F)) d

theorem reg_post (d : Dev nD) :
    (reg V).post d ⊢ iprop(StableHlo.held (d.tc : Thread nD τ) (Pipeline.ucRefs τ sig) (afterCall V d)
        ∗ ((∃ W, owes (d.tc : Thread nD τ) (0 : CellTallies nD τ sig (HIx 1)) W) ∗ emp ∗ emp)) :=
  Pipeline.RegionSeg.ofHeldIn_post (arrs_sub (F := F)) d

set_option backward.isDefEq.respectTransparency.types false in
/-- The call: the boundary and every unscoped array at `V d` give them back at `afterCall V d`. -/
theorem wp_call (κ : GSem nD τ sig → ℕ) (X : Dev nD → Vec F S3072x200 .i32) (d : Dev nD) {α : Type}
    (k : PUnit → Prog (TpuEff nD τ sig (Elt F) (ΛP (F := F)) .tc) α) (Q : α → sProp 𝕄) :
    iprop((iprop(boundary (SparseCore.T d) ∗ StableHlo.held (SparseCore.T d) (Pipeline.ucRefs τ sig) (afterCall V d) ∗ ∃ W, owes (SparseCore.T d) (0 : CellTallies nD τ sig (HIx 1)) W)
          -∗ wp frame (wpE (D (F := F)) 𝒱 (SparseCore.T d) none) Set.univ (k ⟨⟩) Q)
        ∗ boundary (SparseCore.T d) ∗ StableHlo.held (SparseCore.T d) (Pipeline.ucRefs τ sig) (V d)
        ∗ (∃ W, owes (SparseCore.T d) (0 : CellTallies nD τ sig (HIx 1)) W) ∗ (K (F := F)).ctx EH (P X) κ ∗ G (F := F) d)
      ⊢ wp frame (wpE (D (F := F)) 𝒱 (SparseCore.T d) none) Set.univ (.op (.customCall (Pipeline.entry (0 : Fin 1)) ()) k) Q := by
  refine BI.Entails.trans ?_ (Pipeline.RegionSeg.wp (pcfgs (F := F)) adm (pdats V) none cellOf_inj EP defs₀ 𝒱₀ (K (F := F)).L (K (F := F)).lev
    (reg V) d none (fun _ h => absurd h (by simp)) k Q)
  show (_ : sProp 𝕄) ⊢ _
  iintro ⟨Hk, Hb, Hh, HO, #Hctx, Hg, Ht⟩
  isplitl [Hk]
  · iintro ⟨Hb, Hp⟩
    ihave H := (reg_post V d) $$ Hp
    icases H with ⟨Hh, HO, -, -⟩
    iapply Hk
    isplitl [Hb]; · iexact Hb
    isplitl [Hh]; · iexact Hh
    iexact HO
  isplitl [Hb]; · iexact Hb
  isplitl [Hh HO]
  · iapply (reg_pre V d)
    isplitl [Hh]; · iexact Hh
    isplitl [HO]; · iexact HO
    isplitr <;> iempintro
  isplitr
  · iapply (SparseCore.Cfg.ctx_levAts κ); iexact Hctx
  isplitl [Hg]; · iexact Hg
  iexact Ht

end Cert.KernelIdeal.Proved

end
-- ==== Proof.KernelIdealHost.lean ====
/-
  The program on the TensorCore: its host operations as three lines, and what every array holds from one to the next.
-/
module

public import proofs.«01_k».proof.Proof.KernelIdealRegion

@[expose] public section

noncomputable section

namespace Cert.KernelIdeal.Proved

open Cert.KernelIdeal Cert.KernelIdeal.Gen Cert.Hist

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig (HIx 1) (Elt F) ℕ UU ℕ

/-! ## The host operations -/

/-- The host operations before the SparseCore call: the tokens put row by row, and the first layer's weights padded and split in two halves. -/
def ops1 : List (HloOp τ sig (Elt F)) :=
  [ StableHlo.unary main_arg0 main_v0 ((transpose S3x1024x200 [1, 0, 2] · transposes_S1024x3x200_S3x1024x200_1_0_2) : (⟨S1024x3x200, .i32⟩ : BufTy).Contents (Elt F) → (⟨S3x1024x200, .i32⟩ : BufTy).Contents (Elt F)),
    StableHlo.reshape main_v0 main_v1 (rfl : (.i32 : EltTy) = .i32) shapeCasts_S3x1024x200_S3072x200,
    StableHlo.nullary main_cst (constant S_ .f32 0x00000000#32),
    StableHlo.unary main_cst main_v2 (broadcastInDim S5x768 ![] bcast_S_S5x768 : (⟨S_, .f32⟩ : BufTy).Contents (Elt F) → (⟨S5x768, .f32⟩ : BufTy).Contents (Elt F)),
    StableHlo.unary main_arg1 main_v3 ((extractStridedSlice S4096x768 ![5, 0] · slices_S4101x768_S4096x768_5_0) : (⟨S4101x768, .f32⟩ : BufTy).Contents (Elt F) → (⟨S4096x768, .f32⟩ : BufTy).Contents (Elt F)),
    StableHlo.nullary main_cst_0 (constant S_ .f32 0x00000000#32),
    StableHlo.unary main_cst_0 main_v4 (broadcastInDim S123x768 ![] bcast_S_S123x768 : (⟨S_, .f32⟩ : BufTy).Contents (Elt F) → (⟨S123x768, .f32⟩ : BufTy).Contents (Elt F)),
    StableHlo.nary ![main_v2, main_v3, main_v4] main_v5 (fun u => (concatenate S4224x768 0 [⟨S5x768, (u 0 : (⟨S5x768, .f32⟩ : BufTy).Contents (Elt F))⟩, ⟨S4096x768, (u 1 : (⟨S4096x768, .f32⟩ : BufTy).Contents (Elt F))⟩, ⟨S123x768, (u 2 : (⟨S123x768, .f32⟩ : BufTy).Contents (Elt F))⟩] concatenates_S5x768_S4096x768_S123x768_S4224x768_d0 : (⟨S4224x768, .f32⟩ : BufTy).Contents (Elt F))),
    StableHlo.unary main_v5 main_v6 ((truncf .bf16 · bitsLt_bf16_f32) : (⟨S4224x768, .f32⟩ : BufTy).Contents (Elt F) → (⟨S4224x768, .bf16⟩ : BufTy).Contents (Elt F)),
    StableHlo.unary main_v6 main_v7 ((extf .f32 · bitsLt_bf16_f32) : (⟨S4224x768, .bf16⟩ : BufTy).Contents (Elt F) → (⟨S4224x768, .f32⟩ : BufTy).Contents (Elt F)),
    StableHlo.binary main_v5 main_v7 main_v8 (subf : (⟨S4224x768, .f32⟩ : BufTy).Contents (Elt F) → (⟨S4224x768, .f32⟩ : BufTy).Contents (Elt F) → (⟨S4224x768, .f32⟩ : BufTy).Contents (Elt F)),
    StableHlo.unary main_v8 main_v9 ((truncf .bf16 · bitsLt_bf16_f32) : (⟨S4224x768, .f32⟩ : BufTy).Contents (Elt F) → (⟨S4224x768, .bf16⟩ : BufTy).Contents (Elt F)) ]

/-- The two biases as rows. -/
def ops2 : List (HloOp τ sig (Elt F)) :=
  [ StableHlo.reshape main_arg2 main_v11 (rfl : (.f32 : EltTy) = .f32) shapeCasts_S768_S1x768,
    StableHlo.reshape main_arg4 main_v12 (rfl : (.f32 : EltTy) = .f32) shapeCasts_S256_S1x256 ]

/-- The result cut in three. -/
def ops3 : List (HloOp τ sig (Elt F)) :=
  [ StableHlo.unary main_v13 main_v14 ((extractStridedSlice S1024x256 ![0, 0] · slices_S3072x256_S1024x256_0_0) : (⟨S3072x256, .f32⟩ : BufTy).Contents (Elt F) → (⟨S1024x256, .f32⟩ : BufTy).Contents (Elt F)),
    StableHlo.unary main_v13 main_v15 ((extractStridedSlice S1024x256 ![1024, 0] · slices_S3072x256_S1024x256_1024_0) : (⟨S3072x256, .f32⟩ : BufTy).Contents (Elt F) → (⟨S1024x256, .f32⟩ : BufTy).Contents (Elt F)),
    StableHlo.unary main_v13 main_v16 ((extractStridedSlice S1024x256 ![2048, 0] · slices_S3072x256_S1024x256_2048_0) : (⟨S3072x256, .f32⟩ : BufTy).Contents (Elt F) → (⟨S1024x256, .f32⟩ : BufTy).Contents (Elt F)) ]

/-- The program is its three lines with the SparseCore call and the TensorCore call between them. -/
theorem main_eq (d : Dev nD) : main (F := F) d
    = StableHlo.seq ops1 >>= fun _ => (K (F := F)).run d 0 >>= fun _ => StableHlo.seq ops2 >>= fun _ =>
        Prog.lift (.customCall (SparseCore.inner (Pipeline.entry 0)) ()) >>= fun _ => StableHlo.seq ops3 >>= fun _ => pure ⟨⟩ := rfl

theorem ops1_sub : ∀ op ∈ (ops1 : List (HloOp τ sig (Elt F))), op.bufs ⊆ Pipeline.ucRefs τ sig := fun op h =>
  Pipeline.sub_ucRefs op (by
    revert op
    simp [ops1])
theorem ops2_sub : ∀ op ∈ (ops2 : List (HloOp τ sig (Elt F))), op.bufs ⊆ Pipeline.ucRefs τ sig := fun op h =>
  Pipeline.sub_ucRefs op (by revert op; simp [ops2])
theorem ops3_sub : ∀ op ∈ (ops3 : List (HloOp τ sig (Elt F))), op.bufs ⊆ Pipeline.ucRefs τ sig := fun op h =>
  Pipeline.sub_ucRefs op (by revert op; simp [ops3])

theorem ops1_fresh : ∀ op ∈ (ops1 : List (HloOp τ sig (Elt F))), op.fresh = ∅ :=
  List.forall_iff_forall_mem.mp (StableHlo.forall_fresh_of_map rfl)
theorem ops2_fresh : ∀ op ∈ (ops2 : List (HloOp τ sig (Elt F))), op.fresh = ∅ :=
  List.forall_iff_forall_mem.mp (StableHlo.forall_fresh_of_map rfl)
theorem ops3_fresh : ∀ op ∈ (ops3 : List (HloOp τ sig (Elt F))), op.fresh = ∅ :=
  List.forall_iff_forall_mem.mp (StableHlo.forall_fresh_of_map rfl)

/-- What the three lines write, in order. -/
theorem ops1_writes : (ops1 : List (HloOp τ sig (Elt F))).Forall fun op => op.writes
    ⊆ (([main_v0, main_v1, main_cst, main_v2, main_v3, main_cst_0, main_v4, main_v5, main_v6, main_v7, main_v8, main_v9] : List (Ref sig .tc)).map
        (Proc.devRef (τ := τ) .tc)).toFinset := StableHlo.forall_writes_sub_of_map rfl
theorem ops2_writes : (ops2 : List (HloOp τ sig (Elt F))).Forall fun op => op.writes
    ⊆ (([main_v11, main_v12] : List (Ref sig .tc)).map (Proc.devRef (τ := τ) .tc)).toFinset := StableHlo.forall_writes_sub_of_map rfl
theorem ops3_writes : (ops3 : List (HloOp τ sig (Elt F))).Forall fun op => op.writes
    ⊆ (([main_v14, main_v15, main_v16] : List (Ref sig .tc)).map (Proc.devRef (τ := τ) .tc)).toFinset := StableHlo.forall_writes_sub_of_map rfl

/-! ## What the arrays hold -/

variable (m : (ℓ : Loc nD τ sig) → Buf (Elt F) ℓ)

/-- At the start. -/
abbrev val0 (d : Dev nD) : Valuation τ sig (Elt F) := fun b => m (d, b)
/-- Before the SparseCore call. -/
def val1 (d : Dev nD) : Valuation τ sig (Elt F) := StableHlo.after ops1 (val0 m d)
/-- The tokens the SparseCore call reads, row by row. -/
def rows (d : Dev nD) : Vec F S3072x200 .i32 := val1 m d (Proc.devRef .tc main_v1)
/-- After the SparseCore call: the histograms written, all else as before. -/
def val2 (d : Dev nD) : Valuation τ sig (Elt F) := Function.update (val1 m d) (Proc.devRef .tc main_v10) (hist (rows m d))
/-- Before the TensorCore call. -/
def val3 (d : Dev nD) : Valuation τ sig (Elt F) := StableHlo.after ops2 (val2 m d)
/-- After the TensorCore call. -/
def val4 (d : Dev nD) : Valuation τ sig (Elt F) := afterCall (val3 m) d
/-- At the end. -/
def val5 (d : Dev nD) : Valuation τ sig (Elt F) := StableHlo.after ops3 (val4 m d)

theorem val2_self (d : Dev nD) : val2 m d (Proc.devRef .tc main_v10) = hist (rows m d) := Function.update_self ..
theorem val2_of_ne (d : Dev nD) {b : DevRef τ sig} (h : b ≠ Proc.devRef .tc main_v10) : val2 m d b = val1 m d b := Function.update_of_ne h ..

/-- An array nothing writes holds at the end what it held at the start. -/
theorem val5_kept (d : Dev nD) (r : Ref sig .tc)
    (h1 : r ∉ ([main_v0, main_v1, main_cst, main_v2, main_v3, main_cst_0, main_v4, main_v5, main_v6, main_v7, main_v8, main_v9] : List (Ref sig .tc)))
    (h2 : r ≠ main_v10) (h3 : r ∉ ([main_v11, main_v12] : List (Ref sig .tc)))
    (h4 : ∀ w, Pipeline.arrRef spec1 w = r → (cfg1.win w).isOut = false)
    (h5 : r ∉ ([main_v14, main_v15, main_v16] : List (Ref sig .tc))) :
    val5 m d (Proc.devRef .tc r) = m ((d.tc : Thread nD τ).loc r) := by
  have e5 : val5 m d (Proc.devRef .tc r) = val4 m d (Proc.devRef .tc r) := StableHlo.after_of_writes_sub ops3 _ ops3_writes h5
  have e4 : val4 m d (Proc.devRef .tc r) = val3 m d (Proc.devRef .tc r) :=
    Pipeline.afterRegion_keeps (dat (val3 m) d) (val3 m d) winFacts1.arr_inj (fun _ => rfl) r h4
  have e3 : val3 m d (Proc.devRef .tc r) = val2 m d (Proc.devRef .tc r) := StableHlo.after_of_writes_sub ops2 _ ops2_writes h3
  have e2 : val2 m d (Proc.devRef .tc r) = val1 m d (Proc.devRef .tc r) := val2_of_ne m d (StableHlo.devRef_ne_of_ne h2)
  have e1 : val1 m d (Proc.devRef .tc r) = val0 m d (Proc.devRef .tc r) := StableHlo.after_of_writes_sub ops1 _ ops1_writes h1
  rw [e5, e4, e3, e2, e1]

end Cert.KernelIdeal.Proved

end
-- ==== Proof.KernelIdealMain.lean ====
/-
  The program's run: the TensorCore's program over its two calls, and the launch of the whole, every final state holding
  in every unscoped array what `val5` says, with every semaphore at zero.
-/
module

public import proofs.«01_k».proof.Proof.KernelIdealHost

@[expose] public section

noncomputable section

namespace Cert.KernelIdeal.Proved

open Cert.KernelIdeal Cert.KernelIdeal.Gen Cert.Hist

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig (HIx 1) (Elt F) ℕ UU ℕ

/-! ## The two arrays of the SparseCore call, out of all -/

/-- The arrays the SparseCore call takes. -/
def callRefs : Finset (DevRef τ sig) := {Proc.devRef .tc main_v1, Proc.devRef .tc main_v10}

theorem callRefs_sub : callRefs ⊆ Pipeline.ucRefs τ sig := by
  intro b hb
  rcases Finset.mem_insert.mp hb with rfl | hb
  · exact Pipeline.devRef_mem_ucRefs rfl
  · rw [Finset.mem_singleton.mp hb]; exact Pipeline.devRef_mem_ucRefs rfl

theorem held_callRefs (d : Dev nD) (W : Valuation τ sig (Elt F)) :
    (StableHlo.held (SparseCore.T d) callRefs W : sProp 𝕄)
      = iprop((xLoc d ↦{fullShare} W (Proc.devRef .tc main_v1)) ∗ oLoc d ↦{fullShare} W (Proc.devRef .tc main_v10)) := by
  unfold StableHlo.held callRefs
  rw [SparseCore.bigSep_insert' (by
    rw [Finset.mem_singleton]; exact StableHlo.devRef_ne_of_ne (by decide)), bigSep_singleton]

variable (m : (ℓ : Loc nD τ sig) → Buf (Elt F) ℓ) (ρ : Dev nD → PrngReg)

/-- The arrays other than the two hold after the SparseCore call what they held before. -/
theorem held_others (d : Dev nD) :
    (StableHlo.held (SparseCore.T d) (Pipeline.ucRefs τ sig \ callRefs) (val1 m d) : sProp 𝕄)
      = StableHlo.held (SparseCore.T d) (Pipeline.ucRefs τ sig \ callRefs) (val2 m d) :=
  StableHlo.held_congr _ fun b hb => (val2_of_ne m d fun e =>
    (Finset.mem_sdiff.mp hb).2 (by rw [e]; exact Finset.mem_insert_of_mem (Finset.mem_singleton_self _))).symm

/-- All arrays before the SparseCore call, as it takes them. -/
theorem before_call (d : Dev nD) :
    (StableHlo.held (SparseCore.T d) (Pipeline.ucRefs τ sig) (val1 m d) : sProp 𝕄)
      ⊢ iprop((bigSep Finset.univ fun c : Fin ((K (F := F)).nCore 0) => (P (rows m)).st 0 d c)
          ∗ StableHlo.held (SparseCore.T d) (Pipeline.ucRefs τ sig \ callRefs) (val1 m d)) := by
  rw [StableHlo.held_sub_split _ callRefs_sub, held_callRefs]
  exact sep_mono_left (st_intro (rows m) d _)

/-- All arrays after the SparseCore call, as it brings them back. -/
theorem after_call (d : Dev nD) :
    (iprop((bigSep Finset.univ fun c : Fin ((K (F := F)).nCore 0) => (P (rows m)).dn 0 d c)
          ∗ StableHlo.held (SparseCore.T d) (Pipeline.ucRefs τ sig \ callRefs) (val1 m d)) : sProp 𝕄)
      ⊢ StableHlo.held (SparseCore.T d) (Pipeline.ucRefs τ sig) (val2 m d) := by
  rw [StableHlo.held_sub_split _ callRefs_sub, held_callRefs, held_others, val2_self,
    val2_of_ne m d (StableHlo.devRef_ne_of_ne (by decide))]
  exact sep_mono_left (dn_elim (rows m) d)

/-- After its call the TensorCore may have waited on anything. -/
theorem waited (d : Dev nD) (W : Waits sig (HIx 1)) :
    (K (F := F)).WBelow (SparseCore.T d) W (8 * SparseCore.Cfg.Blocks.fst (Q := 1) (N := 1) 1) := by
  intro p _
  obtain ⟨s, _ | q⟩ := p
  · exact Nat.zero_le _
  · exact ((K (F := F)).lev_some_le _ q).trans (by
      have := q.isLt
      show 8 * q.val + 7 ≤ 8 * 1
      omega)

abbrev FIN (d : Dev nD) : sProp 𝕄 := StableHlo.held (SparseCore.T d) (Pipeline.ucRefs τ sig) (val5 m d)

set_option backward.isDefEq.respectTransparency.types false in
/-- A line of host operations at the head of the TensorCore's program. -/
theorem wp_line (d : Dev nD) (ops : List (HloOp τ sig (Elt F))) (hS : ∀ op ∈ ops, op.bufs ⊆ Pipeline.ucRefs τ sig)
    (hf : ∀ op ∈ ops, op.fresh = ∅) (W W' : Valuation τ sig (Elt F)) (hW : StableHlo.after ops W = W')
    (k : PUnit → Prog (TpuEff nD τ sig (Elt F) (SparseCore.Sig (ΛP (F := F)) 1) .tc) PUnit) (Q : PUnit → sProp 𝕄) :
    iprop(boundary (SparseCore.T d) ∗ StableHlo.held (SparseCore.T d) (Pipeline.ucRefs τ sig) W
        ∗ (iprop(boundary (SparseCore.T d) ∗ StableHlo.held (SparseCore.T d) (Pipeline.ucRefs τ sig) W')
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (StableHlo.seq ops >>= k) Q := by
  subst hW
  show (_ : sProp 𝕄) ⊢ _
  iintro ⟨Hb, Hh, Hk⟩
  iapply (StableHlo.wp_seq 𝒱 none Set.univ d (Pipeline.ucRefs τ sig) _ ops hS hf W) $$ [Hb Hh]
  · isplitl [Hb]; · iexact Hb
    iexact Hh
  iexact Hk

/-- The TensorCore's call, in the program's own signature. -/
def callProg : Prog (TpuEff nD τ sig (Elt F) (ΛP (F := F)) .tc) PUnit :=
  .op (.customCall (Pipeline.entry (0 : Fin 1)) ()) fun _ => .ret ⟨⟩

/-- The program's call is that one, carried over. -/
theorem lift_call : (Prog.lift (.customCall (SparseCore.inner (Pipeline.entry (0 : Fin 1))) ()) :
    Prog (TpuEff nD τ sig (Elt F) (SparseCore.Sig (ΛP (F := F)) 1) .tc) PUnit) = SparseCore.liftProg (callProg (F := F)) := rfl

/-- What holds of the call in its own signature holds of the program's. -/
theorem wp_carried (d : Dev nD) (Q : PUnit.{1} → sProp 𝕄) :
    wp frame (wpE (D (F := F)) 𝒱 (SparseCore.T d) none) Set.univ (callProg (F := F)) Q
      ⊢ wp frame (wpE ((K (F := F)).defs (D (F := F))) 𝒱 (SparseCore.T d) none) Set.univ
          (Prog.lift (.customCall (SparseCore.inner (Pipeline.entry (0 : Fin 1))) ())) Q := by
  have hl := SparseCore.Cfg.wp_liftProg (N := 1) (Name := ℕ) (U := UU) (K (F := F)) (D (F := F)) 𝒱 (SparseCore.T d) Set.univ none (α := PUnit) (callProg (F := F)) Q
  rw [lift_call]
  exact hl

/-- The TensorCore's call in the program with SparseCore calls. -/
theorem wp_tcCall (V : Dev nD → Valuation τ sig (Elt F)) (κ : GSem nD τ sig → ℕ) (X : Dev nD → Vec F S3072x200 .i32) (d : Dev nD) (Q : PUnit → sProp 𝕄) :
    iprop(boundary (SparseCore.T d) ∗ StableHlo.held (SparseCore.T d) (Pipeline.ucRefs τ sig) (V d)
        ∗ (∃ W, owes (SparseCore.T d) (0 : CellTallies nD τ sig (HIx 1)) W) ∗ (K (F := F)).ctx EH (P X) κ ∗ G (F := F) d
        ∗ (iprop(boundary (SparseCore.T d) ∗ StableHlo.held (SparseCore.T d) (Pipeline.ucRefs τ sig) (afterCall V d) ∗ ∃ W, owes (SparseCore.T d) (0 : CellTallies nD τ sig (HIx 1)) W)
          -∗ Q ⟨⟩))
      ⊢ wp frame (wpE ((K (F := F)).defs (D (F := F))) 𝒱 (SparseCore.T d) none) Set.univ
          (Prog.lift (.customCall (SparseCore.inner (Pipeline.entry (0 : Fin 1))) ())) Q := by
  refine BI.Entails.trans ?_ (wp_carried d Q)
  have hc := wp_call V κ X d (α := PUnit) (fun _ => .ret ⟨⟩) Q
  refine BI.Entails.trans ?_ hc
  show (_ : sProp 𝕄) ⊢ _
  iintro ⟨Hb, Hh, HO, Hctx, Hg, Hk⟩
  isplitl [Hk]
  · iintro H
    rw [wp_ret]
    imodintro
    iapply Hk; iexact H
  isplitl [Hb]; · iexact Hb
  isplitl [Hh]; · iexact Hh
  isplitl [HO]; · iexact HO
  isplitl [Hctx]; · iexact Hctx
  iexact Hg

/-- The program on device `d`'s TensorCore. -/
theorem hmain (κ : GSem nD τ sig → ℕ) (d : Dev nD) :
    iprop((K (F := F)).ctx EH (P (rows m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (fun b : Ref sig .tc => m ((SparseCore.T d).loc b)) = fun b : Ref sig .tc => val0 m d b from rfl,
    Pipeline.unscopedBufs_held d (val0 m d)]
  iintro ⟨#Hctx, Hst, ⟨Hb, Hh, Hts, -⟩, Hg, Ht⟩
  iapply (wp_line d ops1 ops1_sub ops1_fresh (val0 m d) (val1 m d) rfl)
  isplitl [Hb]; · iexact Hb
  isplitl [Hh]; · iexact Hh
  iintro ⟨Hb, Hh⟩
  ihave Hh := (before_call m d) $$ Hh
  icases Hh with ⟨Hs, Hh⟩
  rw [wp_bind]
  iapply ((K (F := F)).wp_run (D (F := F)) 𝒱 (EH := EH) (P := P (rows m)) κ d 0) $$ [Hst Hs Hh Hb Hts Hg Ht]
  isplitr; · iexact Hctx
  isplitl [Hst]; · iexact Hst
  isplitl [Hs]; · iexact Hs
  iintro ⟨Hst, Hdn⟩
  ihave Hh := (after_call m d) $$ [Hdn Hh]
  · isplitl [Hdn]; · iexact Hdn
    iexact Hh
  iapply (wp_line d ops2 ops2_sub ops2_fresh (val2 m d) (val3 m d) rfl)
  isplitl [Hb]; · iexact Hb
  isplitl [Hh]; · iexact Hh
  iintro ⟨Hb, Hh⟩
  unfold SparseCore.Cfg.tcSt
  icases Hst with ⟨⟨%W, %hW, HO⟩, Hrest⟩
  rw [show (K (F := F)).Otc d ((0 : Fin 1).val + 1) = 0 from (K (F := F)).Otc_end d le_rfl,
    show (K (F := F)).Otc d 1 = 0 from (K (F := F)).Otc_end d le_rfl, wp_bind]
  iapply (wp_tcCall (val3 m) κ (rows m) d)
  isplitl [Hb]; · iexact Hb
  isplitl [Hh]; · iexact Hh
  isplitl [HO]; · iexists W; iexact HO
  isplitr; · iexact Hctx
  isplitl [Hg Ht]
  · isplitl [Hg]; · iexact Hg
    iexact Ht
  iintro ⟨Hb, Hh, %W', HO⟩
  iapply (wp_line d ops3 ops3_sub ops3_fresh (val4 m d) (val5 m d) rfl)
  isplitl [Hb]; · iexact Hb
  isplitl [Hh]; · iexact Hh
  iintro ⟨Hb, Hh⟩
  rw [wp_pure]
  imodintro
  isplitl [HO Hrest]
  · isplitl [HO]
    · iexists W'
      isplitr; · ipureintro; exact waited d W'
      iexact HO
    iexact Hrest
  isplitl [Hh]; · iexact Hh
  isplitl [Hb]; · iexact Hb
  iexact Hts

/-! ## The whole run -/

/-- What a final state holds on a device: every unscoped array what `val5` says. -/
def fq (d : Dev nD) (s' : Phys nD τ sig (Elt F)) : Prop := ∀ b ∈ Pipeline.ucRefs τ sig, s'.mem.mem (d, b) = val5 m d b

theorem hfin (d : Dev nD) (s' : Phys nD τ sig (Elt F)) : iprop(FIN m d ∗ SI s') ⊢ (⌜fq m d s'⌝ : sProp 𝕄) := by
  by_cases hq : fq m d s'
  · iintro -; ipureintro; exact hq
  unfold fq at hq
  push Not at hq
  obtain ⟨b, hb, hne⟩ := hq
  iintro ⟨HF, HSI⟩
  have hp : (FIN m d : sProp 𝕄) ⊢ ((d, b) ↦{fullShare} val5 m d b : sProp 𝕄) := bigSep_elim hb
  ihave Hp := hp $$ HF
  ihave H := (SI_pointsTo_agree (st := s') (ℓ := (d, b)) (I := Finset.univ) (q := fullShare) (f := val5 m d b)) $$ [HSI Hp]
  · isplitl [HSI] <;> iassumption
  icases H with %h
  exact absurd (funext fun i => h i (Finset.mem_univ i)) hne

/-- Every run ends, every unscoped array at `val5` and every semaphore at zero. -/
theorem run_main (hX : ∀ d j, (rows m d j).toNat < 4224) :
    θ_run (Cert.KernelIdeal.defs (F := F)) (Cert.KernelIdeal.threads (F := F)) ⟨m, fun _ => 0, ρ⟩
      (fun r => (∀ d : Dev nD, ∀ b ∈ Pipeline.ucRefs τ sig, r.2.mem (d, b) = val5 m d b) ∧ r.2.sem = fun _ => 0) :=
  SparseCore.Cfg.θ_run_sc_quiescent (K := K (F := F)) (D := D (F := F)) (𝒱 := 𝒱) (EH := EH) (P := P (rows m)) (A := ∅) facts v₀
    (fun q hq => match q with | 0 => nomatch hq)
    (fun q _ => match q with | 0 => tileObl (rows m) hX)
    (fun q _ => match q with | 0 => SparseCore.Cfg.VecSplit.of_plain (vecSplit (rows m)))
    m ρ main (fun d => G (F := F) d) (FIN m) (u₀ (F := F)) (sep_elim_left.trans (hu₀ (rows m))) (hmain m ρ) (fq m) (hfin m) _
    (fun _ h hz => ⟨h, hz⟩)

end Cert.KernelIdeal.Proved

end
-- ==== Proof.KernelIdealFrame.lean ====
/-
  The program's frame: under the precondition it runs to the end with its arguments unchanged and every semaphore at zero.
-/
module

public import proofs.«01_k».proof.Proof.KernelIdealMain
public import proofs.«01_k».proof.Proof.TokenPre
public import proofs.«01_k».proof.Defs

@[expose] public section

noncomputable section

namespace Cert.KernelIdeal.Proved

open Cert.KernelIdeal Cert.KernelIdeal.Gen Cert.Hist

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

variable (m : (ℓ : Loc nD τ sig) → Buf (Elt F) ℓ) (ρ : Dev nD → PrngReg)

/-- The tokens row by row, from the tokens as they come. -/
theorem rows_eq (d : Dev nD) : rows m d
    = shapeCast S3072x200 (transpose S3x1024x200 [1, 0, 2] (m ((d.tc : Thread nD τ).loc main_arg0) : Vec F S1024x3x200 .i32)
        Cert.KernelIdeal.Gen.transposes_S1024x3x200_S3x1024x200_1_0_2) Cert.KernelIdeal.Gen.shapeCasts_S3x1024x200_S3072x200 := by
  unfold rows val1 ops1
  after_results
  rfl

/-- The precondition, of any float instance. -/
def PreAt : Prop := ∀ d : Dev nD, Cert.Pre_tokens_in_range.fn (F := F) (m ((d.tc : Thread nD τ).loc main_arg0)) (m ((d.tc : Thread nD τ).loc main_arg1))
  (m ((d.tc : Thread nD τ).loc main_arg2)) (m ((d.tc : Thread nD τ).loc main_arg3)) (m ((d.tc : Thread nD τ).loc main_arg4)) = fun _ => 1#1

/-- Under the precondition every token the kernel reads is below 4101. -/
theorem rows_lt (h : PreAt m) (d : Dev nD) (j) : (rows m d j).toNat < 4101 := by
  rw [rows_eq]
  exact (TokenPre.parts _ _ _ _ _ (h d)).1 _

/-- Under the precondition every run ends, every unscoped array at `val5` and every semaphore at zero. -/
theorem run_pre (h : PreAt m) :
    θ_run (Cert.KernelIdeal.defs (F := F)) (Cert.KernelIdeal.threads (F := F)) ⟨m, fun _ => 0, ρ⟩
      (fun r => (∀ d : Dev nD, ∀ b ∈ Pipeline.ucRefs τ sig, r.2.mem (d, b) = val5 m d b) ∧ r.2.sem = fun _ => 0) :=
  run_main m ρ fun d j => (rows_lt m h d j).trans (by decide)

/-- An array no operation writes, at a final state. -/
theorem kept {s : MemSt nD τ sig (Elt F)} (h : ∀ d : Dev nD, ∀ b ∈ Pipeline.ucRefs τ sig, s.mem (d, b) = val5 m d b)
    (d : Dev nD) (r : Ref sig .tc) (hr : r.isScoped = false)
    (h1 : r ∉ ([main_v0, main_v1, main_cst, main_v2, main_v3, main_cst_0, main_v4, main_v5, main_v6, main_v7, main_v8, main_v9] : List (Ref sig .tc)))
    (h2 : r ≠ main_v10) (h3 : r ∉ ([main_v11, main_v12] : List (Ref sig .tc)))
    (h4 : ∀ w, Pipeline.arrRef spec1 w = r → (cfg1.win w).isOut = false)
    (h5 : r ∉ ([main_v14, main_v15, main_v16] : List (Ref sig .tc))) :
    s.mem ((d.tc : Thread nD τ).loc r) = m ((d.tc : Thread nD τ).loc r) :=
  (h d _ (Pipeline.devRef_mem_ucRefs hr)).trans (val5_kept m d r h1 h2 h3 h4 h5)

/-- The five arguments, at a final state. -/
theorem args_kept {s : MemSt nD τ sig (Elt F)} (h : ∀ d : Dev nD, ∀ b ∈ Pipeline.ucRefs τ sig, s.mem (d, b) = val5 m d b) (d : Dev nD) :
    s.mem ((d.tc : Thread nD τ).loc main_arg0) = m ((d.tc : Thread nD τ).loc main_arg0)
    ∧ s.mem ((d.tc : Thread nD τ).loc main_arg1) = m ((d.tc : Thread nD τ).loc main_arg1)
    ∧ s.mem ((d.tc : Thread nD τ).loc main_arg2) = m ((d.tc : Thread nD τ).loc main_arg2)
    ∧ s.mem ((d.tc : Thread nD τ).loc main_arg3) = m ((d.tc : Thread nD τ).loc main_arg3)
    ∧ s.mem ((d.tc : Thread nD τ).loc main_arg4) = m ((d.tc : Thread nD τ).loc main_arg4) :=
  ⟨kept m h d main_arg0 rfl (by decide) (by decide) (by decide) (by decide) (by decide),
   kept m h d main_arg1 rfl (by decide) (by decide) (by decide) (by decide) (by decide),
   kept m h d main_arg2 rfl (by decide) (by decide) (by decide) (by decide) (by decide),
   kept m h d main_arg3 rfl (by decide) (by decide) (by decide) (by decide) (by decide),
   kept m h d main_arg4 rfl (by decide) (by decide) (by decide) (by decide) (by decide)⟩

/-- The frame claim. -/
theorem frame : Cert.quiescent_KernelIdeal := fun m ρ hpre =>
  (θ_run Cert.KernelIdeal.defs _ _).mono (fun _ h => ⟨args_kept m h.1, h.2⟩) (run_pre m ρ hpre)

end Cert.KernelIdeal.Proved

end
-- ==== Proof.ReferenceFrame.lean ====
/-
  The reference's frame: it runs to the end with its arguments unchanged; it has no semaphore.
-/
module

public import proofs.«01_k».proof.Proof.Gen.ReferenceIdeal.Run
public import proofs.«01_k».proof.Defs
public import proofs.«01_k».proof.Proof.Gen.Pre_tokens_in_range
public import Idealize.ShloMosaic.Lib.Quiescent

@[expose] public section

noncomputable section

namespace Cert.ReferenceIdeal.Proved

open Idealize.ShloMosaic Idealize.SL.Sem

/-- The reference's run without its results: the arguments end as they began. -/
theorem ends (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m g)

/-- The frame claim, with no precondition. -/
theorem frame : Cert.quiescent_ReferenceIdeal := fun m g _ => ends m g

/-- The frame claim, under the tokens' range. -/
theorem frame_pre : Cert.quiescent_ReferenceIdeal_pre_tokens_in_range := fun m g _ => ends m g

end Cert.ReferenceIdeal.Proved

end
-- ==== Proof.CountMath.lean ====
/-
  The arithmetic of the equation, over the extended reals: a row's counts, the counts without the first five values,
  the scale, and the first layer's sum written the kernel's way and the reference's way.
-/
module

public import proofs.«01_k».proof.Proof.Hist
public import Idealize.ShloMosaic.Lib.IdealHost
public import Idealize.ShloMosaic.Lib.Tactic

@[expose] public section

noncomputable section

namespace Cert.Tuner

open Idealize.ShloMosaic
open scoped BigOperators

/-- A sum of reals is the same sum in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern of ten. -/
theorem ofBits_ten : Ideal.ofBits .f32 0x41200000#32 = ((10 : ℝ) : EReal) := by
  simp [Ideal.ofBits, Ideal.ieee, -EReal.coe_mul]; norm_num

/-- The f32 pattern of two hundred. -/
theorem ofBits_two_hundred : Ideal.ofBits .f32 0x43480000#32 = ((200 : ℝ) : EReal) := by
  simp [Ideal.ofBits, Ideal.ieee, -EReal.coe_mul]; norm_num

/-- The quotient of two reals, the divisor not zero. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- A bin's word after `n` additions of one is the number `n`. -/
theorem cntF_eq (n : ℕ) : (Hist.cntF (F := Ideal) n : EReal) = ((n : ℝ) : EReal) := by
  induction n with
  | zero => exact Ideal.ofBits_zero_f32.trans (by simp)
  | succ n ih =>
    show (Hist.cntF (F := Ideal) n : EReal) + Ideal.ofBits .f32 0x3F800000#32 = _
    rw [ih, Ideal.ofBits_one_f32]
    push_cast; rfl

/-- A count, or zero for the first five values. -/
def keep (n : ℕ → ℕ) (v : ℕ) : EReal := if v < 5 then 0 else ((n v : ℝ) : EReal)

/-- A select on a value being below five, at an index below 4224. -/
theorem select_five {α : Type} (v : ℕ) (hv : v < 4224) (a b : α) :
    Scalar.select (IntOp.cmpi .slt (BitVec.ofNat 32 v) 5#32) a b = if v < 5 then a else b := by
  have h : IntOp.cmpi .slt (BitVec.ofNat 32 v) 5#32 = if v < 5 then 1#1 else 0#1 := by
    unfold IntOp.cmpi
    have e : (BitVec.ofNat 32 v).toInt = v := by
      have h32 : (BitVec.ofNat 32 v).toNat = v := by rw [BitVec.toNat_ofNat]; exact Nat.mod_eq_of_lt (by omega)
      rw [BitVec.toInt_eq_toNat_of_lt (by rw [h32]; omega), h32]
    simp only [BitVec.slt, e]
    by_cases h5 : v < 5
    · rw [if_pos h5, decide_eq_true (by simpa using h5)]; rfl
    · rw [if_neg h5, decide_eq_false (by simpa using h5)]; rfl
  rw [h]; split <;> rfl

/-- Ten over the row's length, a length below one taken as one. -/
def scale (n : ℕ → ℕ) : EReal := Ideal.div (Ideal.ofBits .f32 0x41200000#32) (max (∑ v : Fin 4101, keep n v) 1)

/-- One hidden unit: the scaled counts against the unit's weights, plus its bias, cut at zero. -/
def unit (n : ℕ → ℕ) (w : Fin 4101 → EReal) (b : EReal) : EReal := max ((∑ v : Fin 4101, keep n v * scale n * w v) + b) 0

/-- One result: the hidden units against the second layer's weights, plus its bias. -/
def out (n : ℕ → ℕ) (w : Fin 4101 → Fin 768 → EReal) (b : Fin 768 → EReal) (w2 : Fin 768 → EReal) (b2 : EReal) : EReal :=
  (∑ k : Fin 768, unit n (fun v => w v k) (b k) * w2 k) + b2

/-- The real number behind `keep`. -/
def keepR (n : ℕ → ℕ) (v : ℕ) : ℝ := if v < 5 then 0 else (n v : ℝ)

theorem keep_coe (n : ℕ → ℕ) (v : ℕ) : keep n v = ((keepR n v : ℝ) : EReal) := by
  unfold keep keepR; split <;> simp

/-- A row of 200 entries all below 4101 has 200 entries counted below 4101. -/
theorem sum_cnt (tok : Fin 200 → BitVec 32) (h : ∀ l, (tok l).toNat < 4101) :
    ∑ v ∈ Finset.range 4101, Hist.cnt tok 200 v = 200 := by
  have e := Finset.card_eq_sum_card_fiberwise (s := (Finset.univ : Finset (Fin 200))) (t := Finset.range 4101)
    (f := fun l => (tok l).toNat) (fun l _ => by simpa using h l)
  rw [Finset.card_univ, Fintype.card_fin] at e
  refine Eq.trans ?_ e.symm
  refine Finset.sum_congr rfl fun v _ => ?_
  unfold Hist.cnt
  exact congrArg Finset.card (by ext l; simp)

/-- The first five counts, summed over a longer stretch with the rest left out, and the kept counts make 200. -/
theorem ignored (n : ℕ → ℕ) (h : ∑ v ∈ Finset.range 4101, n v = 200) :
    (200 : ℝ) - ∑ v : Fin 128, (if v.val < 5 then (n v.val : ℝ) else 0) = ∑ v : Fin 4101, keepR n v := by
  rw [Fin.sum_univ_eq_sum_range (fun v => if v < 5 then (n v : ℝ) else 0) 128, Fin.sum_univ_eq_sum_range (keepR n) 4101]
  have e : (∑ v ∈ Finset.range 128, if v < 5 then (n v : ℝ) else 0) = ∑ v ∈ Finset.range 4101, if v < 5 then (n v : ℝ) else 0 := by
    refine Finset.sum_subset (fun v hv => ?_) fun v _ hv => if_neg ?_
    · rw [Finset.mem_range] at hv ⊢; omega
    · rw [Finset.mem_range] at hv; omega
  have hR : (∑ v ∈ Finset.range 4101, (n v : ℝ)) = 200 := by exact_mod_cast h
  rw [e, ← hR, ← Finset.sum_sub_distrib]
  refine Finset.sum_congr rfl fun v _ => ?_
  unfold keepR; split <;> simp

/-- The weights with zeros in place of the first five and of everything past the last. -/
def padded (w : Fin 4101 → EReal) (v : ℕ) : EReal := if h : 5 ≤ v ∧ v < 4101 then w ⟨v, h.2⟩ else 0

/-- The first layer's sum as the kernel writes it — counts against the padded weights and against what rounding them
    left over, then the scale — is the reference's: scaled kept counts against the weights. The weights are finite, so
    nothing is left over. -/
theorem first_layer (n : ℕ → ℕ) (w : Fin 4101 → EReal) (hw : ∀ v, w v ≠ ⊤ ∧ w v ≠ ⊥) (h : ∑ v ∈ Finset.range 4101, n v = 200) :
    ((∑ v : Fin 4224, ((n v : ℝ) : EReal) * padded w v) + ∑ v : Fin 4224, ((n v : ℝ) : EReal) * (padded w v - padded w v))
        * Ideal.div (Ideal.ofBits .f32 0x41200000#32)
            (max (Ideal.ofBits .f32 0x43480000#32 - ∑ v : Fin 128, (if v.val < 5 then ((n v : ℝ) : EReal) else 0)) 1)
      = ∑ v : Fin 4101, keep n v * scale n * w v := by
  obtain ⟨r, rfl⟩ : ∃ r : Fin 4101 → ℝ, w = fun v => ((r v : ℝ) : EReal) :=
    ⟨fun v => (w v).toReal, funext fun v => (EReal.coe_toReal (hw v).1 (hw v).2).symm⟩
  have hs : scale n = ((10 / max (∑ v : Fin 4101, keepR n v) 1 : ℝ) : EReal) := by
    unfold scale
    simp only [keep_coe]
    rw [← coe_sum, ofBits_ten, ← EReal.coe_one, ← EReal.coe_strictMono.monotone.map_max]
    exact div_coe _ _ (ne_of_gt (lt_of_lt_of_le one_pos (le_max_right _ _)))
  have hi : (∑ v : Fin 128, (if v.val < 5 then ((n v : ℝ) : EReal) else 0))
      = ((∑ v : Fin 128, (if v.val < 5 then (n v.val : ℝ) else 0) : ℝ) : EReal) := by
    rw [coe_sum]
    refine Finset.sum_congr rfl fun v _ => ?_
    split <;> simp
  have hk : Ideal.div (Ideal.ofBits .f32 0x41200000#32)
      (max (Ideal.ofBits .f32 0x43480000#32 - ∑ v : Fin 128, (if v.val < 5 then ((n v : ℝ) : EReal) else 0)) 1) = scale n := by
    rw [hi, ofBits_two_hundred, ← EReal.coe_sub, ignored n h]
    unfold scale
    simp only [keep_coe]
    rw [coe_sum]
  rw [hk, hs]
  generalize (10 / max (∑ v : Fin 4101, keepR n v) 1 : ℝ) = s
  let p : ℕ → ℝ := fun v => if h : 5 ≤ v ∧ v < 4101 then r ⟨v, h.2⟩ else 0
  have hp : ∀ v, padded (fun v => ((r v : ℝ) : EReal)) v = ((p v : ℝ) : EReal) := by
    intro v; unfold padded; simp only [p]; split <;> simp
  simp only [hp, keep_coe, ← EReal.coe_sub, ← EReal.coe_mul, ← coe_sum, ← EReal.coe_add]
  refine congrArg Real.toEReal ?_
  simp only [sub_self, mul_zero, Finset.sum_const_zero, add_zero]
  rw [Finset.sum_mul, Fin.sum_univ_eq_sum_range (fun v => (n v : ℝ) * p v * s) 4224]
  have hr : (∑ v : Fin 4101, keepR n v * s * r v) = ∑ v : Fin 4101, (n v.val : ℝ) * p v.val * s := by
    refine Finset.sum_congr rfl fun v _ => ?_
    unfold keepR
    simp only [p]
    by_cases h5 : v.val < 5
    · rw [if_pos h5, dif_neg (by omega)]; simp
    · rw [if_neg h5, dif_pos ⟨by omega, v.isLt⟩]; ring
  rw [hr, Fin.sum_univ_eq_sum_range (fun v => (n v : ℝ) * p v * s) 4101]
  refine (Finset.sum_subset (fun v hv => ?_) fun v _ hv => ?_).symm
  · rw [Finset.mem_range] at hv ⊢; omega
  · rw [Finset.mem_range] at hv
    simp only [p]
    rw [dif_neg (by omega)]; simp

end Cert.Tuner

end
-- ==== Proof.OperandValue.lean ====
/-
  The TensorCore call's operands, over the extended reals, read at an index: the padded weights' two halves, the biases
  as rows, the second layer's weights and the histograms.
-/
module

public import proofs.«01_k».proof.Proof.KernelIdealHost
public import proofs.«01_k».proof.Proof.CountMath
public import Idealize.ShloMosaic.Lib.IdealHost
public import Idealize.ShloMosaic.Lib.Pipeline.Value

@[expose] public section

noncomputable section

namespace Cert.KernelIdeal.Proved

open Cert.KernelIdeal Cert.KernelIdeal.Gen Idealize.ShloMosaic Idealize.ShloMosaic.ValueIdx Idealize.ShloMosaic.TcCoe
open Idealize.ShloMosaic.StableHlo
open scoped BigOperators

/-- A vector as one row, read at an index. -/
theorem row_apply {α : Type} {n : ℕ} (x : (⟨1, ![n]⟩ : Shape).Idx → α) (h : (⟨1, ![n]⟩ : Shape).ShapeCasts ⟨2, ![1, n]⟩) (k : Fin n) :
    shapeCast ⟨2, ![1, n]⟩ x h (ix2 (0 : Fin 1) k) = x (ix1 k) := by
  refine shapeCast_apply _ _ _ _ ?_
  rw [Shape.rowMajor_val_one, Shape.rowMajor_val_two]
  show k.val = 0 * n + k.val
  omega

/-- The three pieces of the padded weights: five zero rows, the weights from the sixth row on, zero rows to the end. -/
def pieces (w : FVec Ideal S4101x768 .f32) : List ((s : Shape) × (s.Idx → EReal)) :=
    [⟨S5x768, broadcastInDim S5x768 ![] bcast_S_S5x768 (constant (F := Ideal) S_ .f32 0x00000000#32)⟩,
     ⟨S4096x768, extractStridedSlice S4096x768 ![5, 0] w slices_S4101x768_S4096x768_5_0⟩,
     ⟨S123x768, broadcastInDim S123x768 ![] bcast_S_S123x768 (constant (F := Ideal) S_ .f32 0x00000000#32)⟩]

/-- The first layer's weights with zero rows in place of the first five and after the last. -/
def padW (w : FVec Ideal S4101x768 .f32) : FVec Ideal S4224x768 .f32 :=
  concatenate S4224x768 0 (pieces w) concatenates_S5x768_S4096x768_S123x768_S4224x768_d0

/-- The padded weights read at an index. -/
theorem padW_apply (w : FVec Ideal S4101x768 .f32) (v : Fin 4224) (k : Fin 768) :
    padW w (ix2 v k) = Tuner.padded (fun u => w (ix2 u k)) v.val := by
  unfold padW Tuner.padded
  have off : ∀ {n : ℕ} (r : Fin n) (b : Fin 2), b ≠ (0 : Fin 2) → ((ix2 r k : (⟨2, ![n, 768]⟩ : Shape).Idx) b).val = ((ix2 v k : S4224x768.Idx) b).val := by
    intro n r b hb
    match b with
    | ⟨0, _⟩ => exact absurd rfl hb
    | ⟨1, _⟩ => rfl
  by_cases h1 : v.val < 5
  · rw [dif_neg (by omega)]
    refine (concatenate_apply_piece 0 (pieces w) _ (ix2 v k) 0 (show 0 < 3 by decide) S5x768 _ rfl rfl 0 rfl (ix2 ⟨v.val, h1⟩ k) (fun b hb => off _ b hb) (Nat.zero_add _)).trans ?_
    rw [broadcastInDim_scalar_apply]; exact Ideal.ofBits_zero_f32
  · by_cases h2 : v.val < 4101
    · rw [dif_pos ⟨by omega, h2⟩]
      refine (concatenate_apply_piece 0 (pieces w) _ (ix2 v k) 1 (show 1 < 3 by decide) S4096x768 _ rfl rfl 5 rfl (ix2 ⟨v.val - 5, by omega⟩ k) (fun b hb => off _ b hb) ?_).trans ?_
      · show 5 + (v.val - 5) = v.val; omega
      · refine extractStridedSlice_apply _ _ _ _ _ fun a => ?_
        match a with
        | ⟨0, _⟩ => show v.val = 5 + (v.val - 5); omega
        | ⟨1, _⟩ => exact (Nat.zero_add _).symm
    · rw [dif_neg (by omega)]
      refine (concatenate_apply_piece 0 (pieces w) _ (ix2 v k) 2 (show 2 < 3 by decide) S123x768 _ rfl rfl 4101 rfl (ix2 ⟨v.val - 4101, by omega⟩ k) (fun b hb => off _ b hb) ?_).trans ?_
      · show 4101 + (v.val - 4101) = v.val; omega
      · rw [broadcastInDim_scalar_apply]; exact Ideal.ofBits_zero_f32

variable (m : (ℓ : Loc nD τ sig) → Buf (Elt Ideal) ℓ) (d : Dev nD)

/-- An array the line between the calls does not write, nor the SparseCore call. -/
theorem val3_eq_val1 (r : Ref sig .tc) (h3 : r ∉ ([main_v11, main_v12] : List (Ref sig .tc))) (h2 : r ≠ main_v10) :
    val3 m d (Proc.devRef .tc r) = val1 m d (Proc.devRef .tc r) :=
  (StableHlo.after_of_writes_sub ops2 _ ops2_writes h3).trans (val2_of_ne m d (StableHlo.devRef_ne_of_ne h2))

theorem val3_hist : val3 m d (Proc.devRef .tc main_v10) = hist (rows m d) :=
  (StableHlo.after_of_writes_sub ops2 _ ops2_writes (by decide)).trans (val2_self m d)

theorem val3_arg3 : val3 m d (Proc.devRef .tc main_arg3) = m ((d.tc : Thread nD τ).loc main_arg3) :=
  (val3_eq_val1 m d main_arg3 (by decide) (by decide)).trans (StableHlo.after_of_writes_sub ops1 _ ops1_writes (by decide))

theorem val3_hi : (val3 m d (Proc.devRef .tc main_v6) : FVec Ideal S4224x768 .bf16)
    = truncf .bf16 (padW (m ((d.tc : Thread nD τ).loc main_arg1))) bitsLt_bf16_f32 := by
  refine (val3_eq_val1 m d main_v6 (by decide) (by decide)).trans ?_
  unfold val1 ops1 padW pieces
  after_results
  rfl

theorem val3_lo : (val3 m d (Proc.devRef .tc main_v9) : FVec Ideal S4224x768 .bf16)
    = truncf .bf16 (subf (padW (m ((d.tc : Thread nD τ).loc main_arg1)))
        (extf .f32 (truncf (F := Ideal) .bf16 (padW (m ((d.tc : Thread nD τ).loc main_arg1))) bitsLt_bf16_f32) bitsLt_bf16_f32)) bitsLt_bf16_f32 := by
  refine (val3_eq_val1 m d main_v9 (by decide) (by decide)).trans ?_
  unfold val1 ops1 padW pieces
  after_results
  rfl

theorem val3_b1 : (val3 m d (Proc.devRef .tc main_v11) : FVec Ideal S1x768 .f32)
    = shapeCast S1x768 (m ((d.tc : Thread nD τ).loc main_arg2) : FVec Ideal S768 .f32) shapeCasts_S768_S1x768 := by
  have e : val2 m d (Proc.devRef .tc main_arg2) = m ((d.tc : Thread nD τ).loc main_arg2) :=
    (val2_of_ne m d (StableHlo.devRef_ne_of_ne (by decide))).trans (StableHlo.after_of_writes_sub ops1 _ ops1_writes (by decide))
  rw [← e]
  unfold val3 ops2
  after_results
  rfl

theorem val3_b2 : (val3 m d (Proc.devRef .tc main_v12) : FVec Ideal S1x256 .f32)
    = shapeCast S1x256 (m ((d.tc : Thread nD τ).loc main_arg4) : FVec Ideal S256 .f32) shapeCasts_S256_S1x256 := by
  have e : val2 m d (Proc.devRef .tc main_arg4) = m ((d.tc : Thread nD τ).loc main_arg4) :=
    (val2_of_ne m d (StableHlo.devRef_ne_of_ne (by decide))).trans (StableHlo.after_of_writes_sub ops1 _ ops1_writes (by decide))
  rw [← e]
  unfold val3 ops2
  after_results
  rfl

/-- The weights' first half read at an index: over the extended reals, the padded weights. -/
theorem hi_apply (v : Fin 4224) (k : Fin 768) : (val3 m d (Proc.devRef .tc main_v6) : FVec Ideal S4224x768 .bf16) (ix2 v k)
    = Tuner.padded (fun u => (m ((d.tc : Thread nD τ).loc main_arg1) : FVec Ideal S4101x768 .f32) (ix2 u k)) v.val := by
  rw [val3_hi, truncf_apply]; exact padW_apply _ v k

/-- The weights' second half read at an index: what is left of them. -/
theorem lo_apply (v : Fin 4224) (k : Fin 768) : (val3 m d (Proc.devRef .tc main_v9) : FVec Ideal S4224x768 .bf16) (ix2 v k)
    = Tuner.padded (fun u => (m ((d.tc : Thread nD τ).loc main_arg1) : FVec Ideal S4101x768 .f32) (ix2 u k)) v.val
      - Tuner.padded (fun u => (m ((d.tc : Thread nD τ).loc main_arg1) : FVec Ideal S4101x768 .f32) (ix2 u k)) v.val := by
  rw [val3_lo, truncf_apply, subf_apply, extf_apply, truncf_apply, padW_apply]

/-- The first bias read at an index. -/
theorem b1_apply (k : Fin 768) : (val3 m d (Proc.devRef .tc main_v11) : FVec Ideal S1x768 .f32) (ix2 (0 : Fin 1) k)
    = (m ((d.tc : Thread nD τ).loc main_arg2) : FVec Ideal S768 .f32) (ix1 k) := by
  rw [val3_b1]
  exact row_apply _ _ k

/-- The second bias read at an index. -/
theorem b2_apply (o : Fin 256) : (val3 m d (Proc.devRef .tc main_v12) : FVec Ideal S1x256 .f32) (ix2 (0 : Fin 1) o)
    = (m ((d.tc : Thread nD τ).loc main_arg4) : FVec Ideal S256 .f32) (ix1 o) := by
  rw [val3_b2]
  exact row_apply _ _ o

/-- The counts of a token row. -/
def rowCnt (R : Fin 3072) (v : ℕ) : ℕ := Hist.cnt (fun l => rows m d (ix2 R l)) 200 v

/-- A histogram read at an index: the count. -/
theorem hist_apply (R : Fin 3072) (v : Fin 4224) : (val3 m d (Proc.devRef .tc main_v10) : FVec Ideal S3072x4224 .f32) (ix2 R v)
    = ((rowCnt m d R v.val : ℝ) : EReal) := by
  rw [val3_hist]
  refine (Tuner.cntF_eq _).trans ?_
  unfold rowCnt
  refine congrArg (fun n : ℕ => ((n : ℝ) : EReal)) (congrArg (fun f => Hist.cnt f 200 v.val) (funext fun l => congrArg (rows m d) ?_))
  funext a
  match a with | ⟨0, _⟩ => rfl | ⟨1, _⟩ => rfl

end Cert.KernelIdeal.Proved

end
-- ==== Proof.MlpValue.lean ====
/-
  The TensorCore kernel's block, over the extended reals, read at an index: the two layers from one histogram row.
-/
module

public import proofs.«01_k».proof.Proof.KernelIdealMlp
public import proofs.«01_k».proof.Proof.CountMath
public import Idealize.ShloMosaic.Lib.MatmulPlain
public import Idealize.ShloMosaic.Lib.IdealHost
public import Idealize.ShloMosaic.Lib.Pipeline.Value

@[expose] public section

noncomputable section

namespace Cert.KernelIdeal.Proved

open Cert.KernelIdeal Cert.KernelIdeal.Gen Idealize.ShloMosaic Idealize.ShloMosaic.ValueIdx
open scoped BigOperators

/-- The scale a histogram row's block carries: ten over 200 less the first five counts, a length below one taken as one. -/
def rowScale (c : Fin 4224 → EReal) : EReal :=
  Ideal.div (Ideal.ofBits .f32 0x41200000#32)
    (max (Ideal.ofBits .f32 0x43480000#32 - ∑ v : Fin 128, (if v.val < 5 then c (v.castLE (by decide)) else 0)) 1)

/-- One result from a histogram row and the operands. -/
def rowOut (c : Fin 4224 → EReal) (hi lo : Fin 4224 → Fin 768 → EReal) (b : Fin 768 → EReal) (w2 : Fin 768 → EReal) (b2 : EReal) : EReal :=
  (∑ k : Fin 768, max (((∑ v : Fin 4224, c v * hi v k) + ∑ v : Fin 4224, c v * lo v k) * rowScale c + b k) 0 * w2 k) + b2

theorem reduces_row : S256x128.Reduces [1] S256 := by decide

/-- The scale as the kernel computes it, for a whole block. -/
def blockScale (x0 : FVec Ideal S256x4224 .f32) : FVec Ideal S256x1 .f32 :=
  divf (broadcast S256x1 (Scalar.ofBits .f32 0x41200000#32))
    (maximumf (subf (broadcast S256x1 (Scalar.ofBits .f32 0x43480000#32))
      (shapeCast S256x1 (multiReduction .add [1] S256
        (select (cmpi .slt (iota .tc S256x128 32 [1] iota_S256x128_d1_w32) (broadcast S256x128 5#32))
          (extractStridedSlice S256x128 ![0, 0] (shapeCast S256x4224 x0 shapeCasts_S256x4224_S256x4224) slices_S256x4224_o0_0_S256x128)
          (broadcast S256x128 (Scalar.ofBits .f32 0x00000000#32)))
        0x00000000#32 reduces_S256x128_S256 (.inl rfl) rfl) shapeCasts_S256_S256x1))
      (broadcast S256x1 (Scalar.ofBits .f32 0x3F800000#32)))

/-- The block's scale read at a row. -/
theorem blockScale_apply (x0 : FVec Ideal S256x4224 .f32) (p : Fin 256) :
    blockScale x0 (ix2 p (0 : Fin 1)) = rowScale (fun v => x0 (ix2 p v)) := by
  unfold blockScale rowScale
  rw [divf_apply, maximumf_apply, subf_apply]
  show Ideal.div (Ideal.ofBits .f32 0x41200000#32) (max (Ideal.ofBits .f32 0x43480000#32 - _) (Ideal.ofBits .f32 0x3F800000#32)) = _
  rw [Ideal.ofBits_one_f32]
  refine congrArg (fun x => Ideal.div _ (max (_ - x) 1)) ?_
  refine (shapeCast_apply _ _ _ (ix1 p) ?_).trans ?_
  · rw [Shape.rowMajor_val_one, Shape.rowMajor_val_two]
    show p.val = p.val * 1 + 0
    omega
  refine (Ideal.multiReduction_add_single _ _ reduces_row _ _ _).trans ?_
  refine Finset.sum_congr rfl fun (v : Fin 128) _ => ?_
  have el : reduces_row.lift (ix1 p) v = ix2 p (v : Fin 128) := by
    funext a; apply Fin.ext
    match a with | ⟨0, _⟩ => rfl | ⟨1, _⟩ => rfl
  have hm : cmpi .slt (iota .tc S256x128 32 [1] iota_S256x128_d1_w32) (broadcast S256x128 5#32) (ix2 p v)
      = IntOp.cmpi .slt (BitVec.ofNat 32 v.val) 5#32 :=
    congrArg (IntOp.cmpi .slt · 5#32) (iota_single_apply .tc S256x128 32 1 iota_S256x128_d1_w32 (ix2 p v))
  rw [el]
  refine (select_apply _ _ _ _).trans ?_
  rw [hm]
  show Scalar.select _ _ (Ideal.ofBits .f32 0x00000000#32) = _
  rw [Tuner.select_five _ (lt_trans v.isLt (by decide)), Ideal.ofBits_zero_f32]
  refine congrArg (fun x => if v.val < 5 then x else 0) ?_
  refine (extractStridedSlice_apply _ _ _ _ (ix2 p (v.castLE (by decide))) fun a => ?_).trans (shapeCast_apply _ _ _ _ rfl)
  match a with
  | ⟨0, _⟩ => exact (Nat.zero_add _).symm
  | ⟨1, _⟩ => exact (Nat.zero_add _).symm

/-- The block read at an index. -/
theorem mlpBlock_apply (x0 : FVec Ideal S256x4224 .f32) (x1 x2 : FVec Ideal S4224x768 .bf16) (x3 : FVec Ideal S1x768 .f32)
    (x4 : FVec Ideal S768x256 .f32) (x5 : FVec Ideal S1x256 .f32) (p o : Fin 256) :
    mlpBlock (F := Ideal) x0 x1 x2 x3 x4 x5 (ix2 p o)
      = rowOut (fun v => x0 (ix2 p v)) (fun v k => x1 (ix2 v k)) (fun v k => x2 (ix2 v k)) (fun k => x3 (ix2 (0 : Fin 1) k))
          (fun k => x4 (ix2 k o)) (x5 (ix2 (0 : Fin 1) o)) := by
  have z : ∀ {s : Shape} (j : s.Idx), constant (F := Ideal) s .f32 0x00000000#32 j = 0 := fun j => Ideal.ofBits_zero_f32
  unfold rowOut
  show FloatOps.matmul (F := Ideal) (DotDims.plain 256 768 256) none _ x4 (constant S256x256 .f32 0x00000000#32) (ix2 p o)
      + broadcastTo S256x256 (shapeCast S1x256 x5 shapeCasts_S1x256_S1x256) broadcasts_S1x256_S256x256 (ix2 p o) = _
  rw [Ideal.matmul_plain_apply, z, zero_add]
  refine congrArg₂ (· + ·) ?_ ?_
  · refine Finset.sum_congr rfl fun k _ => congrArg (· * x4 (ix2 k o)) ?_
    show max ((FloatOps.matmul (F := Ideal) (DotDims.plain 256 4224 768) none (truncf .bf16 (shapeCast S256x4224 x0 shapeCasts_S256x4224_S256x4224) bitsLt_bf16_f32)
              (shapeCast S4224x768 x1 shapeCasts_S4224x768_S4224x768) (constant S256x768 .f32 0x00000000#32) (ix2 p k)
            + FloatOps.matmul (F := Ideal) (DotDims.plain 256 4224 768) none (truncf .bf16 (shapeCast S256x4224 x0 shapeCasts_S256x4224_S256x4224) bitsLt_bf16_f32)
              (shapeCast S4224x768 x2 shapeCasts_S4224x768_S4224x768) (constant S256x768 .f32 0x00000000#32) (ix2 p k))
          * broadcastTo S256x768 (blockScale x0) broadcasts_S256x1_S256x768 (ix2 p k)
        + broadcastTo S256x768 (shapeCast S1x768 x3 shapeCasts_S1x768_S1x768) broadcasts_S1x768_S256x768 (ix2 p k))
        (Ideal.ofBits .f32 0x00000000#32) = _
    rw [Ideal.matmul_plain_apply, Ideal.matmul_plain_apply, z, zero_add, zero_add, Ideal.ofBits_zero_f32]
    have hs : broadcastTo S256x768 (blockScale x0) broadcasts_S256x1_S256x768 (ix2 p k) = rowScale (fun v => x0 (ix2 p v)) := by
      refine (broadcastTo_apply _ _ _ (ix2 p (0 : Fin 1)) fun a => ?_).trans (blockScale_apply x0 p)
      match a with | ⟨0, _⟩ => rfl | ⟨1, _⟩ => rfl
    have hb : broadcastTo S256x768 (shapeCast S1x768 x3 shapeCasts_S1x768_S1x768) broadcasts_S1x768_S256x768 (ix2 p k) = x3 (ix2 (0 : Fin 1) k) := by
      refine (broadcastTo_apply _ _ _ (ix2 (0 : Fin 1) k) fun a => ?_).trans (shapeCast_apply _ _ _ _ rfl)
      match a with | ⟨0, _⟩ => rfl | ⟨1, _⟩ => rfl
    rw [hs, hb]
    refine congrArg (fun x => max (x * _ + _) 0) (congrArg₂ (· + ·) ?_ ?_) <;>
    · refine Finset.sum_congr rfl fun v _ => ?_
      rw [truncf_apply]
      exact congrArg₂ (· * ·) (shapeCast_apply _ _ _ _ rfl) (shapeCast_apply _ _ _ _ rfl)
  · refine (broadcastTo_apply _ _ _ (ix2 (0 : Fin 1) o) fun a => ?_).trans (shapeCast_apply _ _ _ _ rfl)
    match a with | ⟨0, _⟩ => rfl | ⟨1, _⟩ => rfl

end Cert.KernelIdeal.Proved

end
-- ==== Proof.ResultValue.lean ====
/-
  The TensorCore call's result, over the extended reals: every row of it is `Tuner.out` of that row's token counts.
-/
module

public import proofs.«01_k».proof.Proof.OperandValue
public import proofs.«01_k».proof.Proof.MlpValue
public import Idealize.ShloMosaic.Lib.Pipeline.ValueKit

@[expose] public section

noncomputable section

namespace Cert.KernelIdeal.Proved

open Cert.KernelIdeal Cert.KernelIdeal.Gen
open Idealize.ShloMosaic hiding ix1 ix2 eq_ix2
open Idealize.ShloMosaic.ValueIdx Idealize.ShloMosaic.TcCoe
open Idealize.ShloMosaic.Pipeline (Dat)
open scoped BigOperators

variable (m : (ℓ : Loc nD τ sig) → Buf (Elt Ideal) ℓ) (d : Dev nD)

theorem rowOut_congr {c c' : Fin 4224 → EReal} {hi hi' lo lo' : Fin 4224 → Fin 768 → EReal} {b b' w2 w2' : Fin 768 → EReal} {b2 b2' : EReal}
    (e0 : c = c') (e1 : hi = hi') (e2 : lo = lo') (e3 : b = b') (e4 : w2 = w2') (e5 : b2 = b2') :
    rowOut c hi lo b w2 b2 = rowOut c' hi' lo' b' w2' b2' := by subst e0 e1 e2 e3 e4 e5; rfl

/-- A row from its counts, the padded weights and what is left of them is the common value, the weights finite. -/
theorem rowOut_counts (n : ℕ → ℕ) (w : Fin 4101 → Fin 768 → EReal) (hw : ∀ v k, w v k ≠ ⊤ ∧ w v k ≠ ⊥)
    (h : ∑ v ∈ Finset.range 4101, n v = 200) (b w2 : Fin 768 → EReal) (b2 : EReal) :
    rowOut (fun v => ((n v : ℝ) : EReal)) (fun v k => Tuner.padded (fun u => w u k) v)
      (fun v k => Tuner.padded (fun u => w u k) v - Tuner.padded (fun u => w u k) v) b w2 b2 = Tuner.out n w b w2 b2 := by
  unfold rowOut rowScale Tuner.out Tuner.unit
  refine congrArg₂ (· + ·) (Finset.sum_congr rfl fun k _ => ?_) rfl
  refine congrArg₂ (· * ·) (congrArg₂ max (congrArg₂ (· + ·) ?_ rfl) rfl) rfl
  exact Tuner.first_layer n (fun v => w v k) (fun v => hw v k) h

/-- What one row gives at one column. -/
def rowResult (R : Fin 3072) (o : Fin 256) : EReal :=
  Tuner.out (rowCnt m d R) (fun v k => (m ((d.tc : Thread nD τ).loc main_arg1) : FVec Ideal S4101x768 .f32) (ix2 v k))
    (fun k => (m ((d.tc : Thread nD τ).loc main_arg2) : FVec Ideal S768 .f32) (ix1 k))
    (fun k => (m ((d.tc : Thread nD τ).loc main_arg3) : FVec Ideal S768x256 .f32) (ix2 k o))
    ((m ((d.tc : Thread nD τ).loc main_arg4) : FVec Ideal S256 .f32) (ix1 o))

/-- The kernel's row from its operands is the common value, the tokens in range and the weights finite. -/
theorem rowOut_eq (hX : ∀ j, (rows m d j).toNat < 4101)
    (hw : ∀ i, (m ((d.tc : Thread nD τ).loc main_arg1) : FVec Ideal S4101x768 .f32) i ≠ (⊤ : EReal)
      ∧ (m ((d.tc : Thread nD τ).loc main_arg1) : FVec Ideal S4101x768 .f32) i ≠ (⊥ : EReal)) (R : Fin 3072) (o : Fin 256) :
    rowOut (fun v => (val3 m d (Proc.devRef .tc main_v10) : FVec Ideal S3072x4224 .f32) (ix2 R v))
      (fun v k => (val3 m d (Proc.devRef .tc main_v6) : FVec Ideal S4224x768 .bf16) (ix2 v k))
      (fun v k => (val3 m d (Proc.devRef .tc main_v9) : FVec Ideal S4224x768 .bf16) (ix2 v k))
      (fun k => (val3 m d (Proc.devRef .tc main_v11) : FVec Ideal S1x768 .f32) (ix2 (0 : Fin 1) k))
      (fun k => (val3 m d (Proc.devRef .tc main_arg3) : FVec Ideal S768x256 .f32) (ix2 k o))
      ((val3 m d (Proc.devRef .tc main_v12) : FVec Ideal S1x256 .f32) (ix2 (0 : Fin 1) o)) = rowResult m d R o := by
  refine (rowOut_congr (funext fun v => hist_apply m d R v) (funext fun v => funext fun k => hi_apply m d v k)
    (funext fun v => funext fun k => lo_apply m d v k) (funext fun k => b1_apply m d k)
    (funext fun k => congrFun (val3_arg3 m d) (ix2 k o)) (b2_apply m d o)).trans ?_
  exact rowOut_counts (rowCnt m d R) (fun v k => (m ((d.tc : Thread nD τ).loc main_arg1) : FVec Ideal S4101x768 .f32) (ix2 v k))
    (fun v k => hw _) (Tuner.sum_cnt _ fun l => hX _) _ _ _

/-! Where a block's index lies in its array: the histograms' and the result's blocks are 256 rows each, the rest whole. -/

theorem idx0 : ∀ t : Fin grid1.N, win1_0.index t = ![t.val, 0] := by decide +kernel
theorem idx1 : ∀ t : Fin grid1.N, win1_1.index t = ![0, 0] := by decide +kernel
theorem idx2 : ∀ t : Fin grid1.N, win1_2.index t = ![0, 0] := by decide +kernel
theorem idx3 : ∀ t : Fin grid1.N, win1_3.index t = ![0, 0] := by decide +kernel
theorem idx4 : ∀ t : Fin grid1.N, win1_4.index t = ![0, 0] := by decide +kernel
theorem idx5 : ∀ t : Fin grid1.N, win1_5.index t = ![0, 0] := by decide +kernel
theorem idx6 : ∀ t : Fin grid1.N, win1_6.index t = ![t.val, 0] := by decide +kernel

theorem emb0 (t : Fin cfg1.N) (y : ((cfg1.win 0).xblock (cfg1.grid.coords t)).Idx) :
    (((win1_0.blk t).view.emb y 0 : ℕ) = t.val * 256 + (y 0 : ℕ)) ∧ (((win1_0.blk t).view.emb y 1 : ℕ) = (y 1 : ℕ)) := by
  constructor <;> blk_simp [idx0] <;> simp

theorem emb1 (t : Fin cfg1.N) (y : ((cfg1.win 1).xblock (cfg1.grid.coords t)).Idx) :
    (((win1_1.blk t).view.emb y 0 : ℕ) = (y 0 : ℕ)) ∧ (((win1_1.blk t).view.emb y 1 : ℕ) = (y 1 : ℕ)) := by
  constructor <;> blk_simp [idx1] <;> simp

theorem emb2 (t : Fin cfg1.N) (y : ((cfg1.win 2).xblock (cfg1.grid.coords t)).Idx) :
    (((win1_2.blk t).view.emb y 0 : ℕ) = (y 0 : ℕ)) ∧ (((win1_2.blk t).view.emb y 1 : ℕ) = (y 1 : ℕ)) := by
  constructor <;> blk_simp [idx2] <;> simp

theorem emb3 (t : Fin cfg1.N) (y : ((cfg1.win 3).xblock (cfg1.grid.coords t)).Idx) :
    (((win1_3.blk t).view.emb y 0 : ℕ) = (y 0 : ℕ)) ∧ (((win1_3.blk t).view.emb y 1 : ℕ) = (y 1 : ℕ)) := by
  constructor <;> blk_simp [idx3] <;> simp

theorem emb4 (t : Fin cfg1.N) (y : ((cfg1.win 4).xblock (cfg1.grid.coords t)).Idx) :
    (((win1_4.blk t).view.emb y 0 : ℕ) = (y 0 : ℕ)) ∧ (((win1_4.blk t).view.emb y 1 : ℕ) = (y 1 : ℕ)) := by
  constructor <;> blk_simp [idx4] <;> simp

theorem emb5 (t : Fin cfg1.N) (y : ((cfg1.win 5).xblock (cfg1.grid.coords t)).Idx) :
    (((win1_5.blk t).view.emb y 0 : ℕ) = (y 0 : ℕ)) ∧ (((win1_5.blk t).view.emb y 1 : ℕ) = (y 1 : ℕ)) := by
  constructor <;> blk_simp [idx5] <;> simp

theorem emb6 (t : Fin cfg1.N) (y : ((cfg1.win 6).xblock (cfg1.grid.coords t)).Idx) :
    (((win1_6.blk t).view.emb y 0 : ℕ) = t.val * 256 + (y 0 : ℕ)) ∧ (((win1_6.blk t).view.emb y 1 : ℕ) = (y 1 : ℕ)) := by
  constructor <;> blk_simp [idx6] <;> simp

/-! The staged blocks read at an index. -/

theorem stg0_apply (V : Dev nD → Valuation τ sig (Elt Ideal)) (t : Fin cfg1.N) (p : Fin 256) (v : Fin 4224) (R : Fin 3072)
    (hR : t.val * 256 + p.val = R.val) :
    (stg V d 0 t : FVec Ideal S256x4224 .f32) (ix2 p v) = (V d (Proc.devRef .tc main_v10) : FVec Ideal S3072x4224 .f32) (ix2 R v) :=
  congrArg (V d (Proc.devRef .tc main_v10)) (funext fun a => match a with
    | ⟨0, _⟩ => Fin.ext ((emb0 t (ix2 p v : S256x4224.Idx)).1.trans hR)
    | ⟨1, _⟩ => Fin.ext (emb0 t (ix2 p v : S256x4224.Idx)).2)

theorem stg1_apply (V : Dev nD → Valuation τ sig (Elt Ideal)) (t : Fin cfg1.N) (v : Fin 4224) (k : Fin 768) :
    (stg V d 1 t : FVec Ideal S4224x768 .bf16) (ix2 v k) = (V d (Proc.devRef .tc main_v6) : FVec Ideal S4224x768 .bf16) (ix2 v k) :=
  congrArg (V d (Proc.devRef .tc main_v6)) (funext fun a => match a with
    | ⟨0, _⟩ => Fin.ext (emb1 t (ix2 v k : S4224x768.Idx)).1
    | ⟨1, _⟩ => Fin.ext (emb1 t (ix2 v k : S4224x768.Idx)).2)

theorem stg2_apply (V : Dev nD → Valuation τ sig (Elt Ideal)) (t : Fin cfg1.N) (v : Fin 4224) (k : Fin 768) :
    (stg V d 2 t : FVec Ideal S4224x768 .bf16) (ix2 v k) = (V d (Proc.devRef .tc main_v9) : FVec Ideal S4224x768 .bf16) (ix2 v k) :=
  congrArg (V d (Proc.devRef .tc main_v9)) (funext fun a => match a with
    | ⟨0, _⟩ => Fin.ext (emb2 t (ix2 v k : S4224x768.Idx)).1
    | ⟨1, _⟩ => Fin.ext (emb2 t (ix2 v k : S4224x768.Idx)).2)

theorem stg3_apply (V : Dev nD → Valuation τ sig (Elt Ideal)) (t : Fin cfg1.N) (k : Fin 768) :
    (stg V d 3 t : FVec Ideal S1x768 .f32) (ix2 (0 : Fin 1) k) = (V d (Proc.devRef .tc main_v11) : FVec Ideal S1x768 .f32) (ix2 (0 : Fin 1) k) :=
  congrArg (V d (Proc.devRef .tc main_v11)) (funext fun a => match a with
    | ⟨0, _⟩ => Fin.ext (emb3 t (ix2 (0 : Fin 1) k : S1x768.Idx)).1
    | ⟨1, _⟩ => Fin.ext (emb3 t (ix2 (0 : Fin 1) k : S1x768.Idx)).2)

theorem stg4_apply (V : Dev nD → Valuation τ sig (Elt Ideal)) (t : Fin cfg1.N) (k : Fin 768) (o : Fin 256) :
    (stg V d 4 t : FVec Ideal S768x256 .f32) (ix2 k o) = (V d (Proc.devRef .tc main_arg3) : FVec Ideal S768x256 .f32) (ix2 k o) :=
  congrArg (V d (Proc.devRef .tc main_arg3)) (funext fun a => match a with
    | ⟨0, _⟩ => Fin.ext (emb4 t (ix2 k o : S768x256.Idx)).1
    | ⟨1, _⟩ => Fin.ext (emb4 t (ix2 k o : S768x256.Idx)).2)

theorem stg5_apply (V : Dev nD → Valuation τ sig (Elt Ideal)) (t : Fin cfg1.N) (o : Fin 256) :
    (stg V d 5 t : FVec Ideal S1x256 .f32) (ix2 (0 : Fin 1) o) = (V d (Proc.devRef .tc main_v12) : FVec Ideal S1x256 .f32) (ix2 (0 : Fin 1) o) :=
  congrArg (V d (Proc.devRef .tc main_v12)) (funext fun a => match a with
    | ⟨0, _⟩ => Fin.ext (emb5 t (ix2 (0 : Fin 1) o : S1x256.Idx)).1
    | ⟨1, _⟩ => Fin.ext (emb5 t (ix2 (0 : Fin 1) o : S1x256.Idx)).2)

/-- A block of the result read at an index. -/
theorem outBlk_apply (hX : ∀ j, (rows m d j).toNat < 4101)
    (hw : ∀ i, (m ((d.tc : Thread nD τ).loc main_arg1) : FVec Ideal S4101x768 .f32) i ≠ (⊤ : EReal)
      ∧ (m ((d.tc : Thread nD τ).loc main_arg1) : FVec Ideal S4101x768 .f32) i ≠ (⊥ : EReal))
    (t : Fin cfg1.N) (p o : Fin 256) (R : Fin 3072) (hR : t.val * 256 + p.val = R.val) :
    outBlk (val3 m) d t (ix2 p o) = rowResult m d R o := by
  refine (mlpBlock_apply _ _ _ _ _ _ p o).trans ?_
  refine (rowOut_congr ?_ ?_ ?_ ?_ ?_ ?_).trans (rowOut_eq m d hX hw R o)
  · exact funext fun v => stg0_apply d (val3 m) t p v R hR
  · exact funext fun v => funext fun k => stg1_apply d (val3 m) t v k
  · exact funext fun v => funext fun k => stg2_apply d (val3 m) t v k
  · exact funext fun k => stg3_apply d (val3 m) t k
  · exact funext fun k => stg4_apply d (val3 m) t k o
  · exact stg5_apply d (val3 m) t o

/-- The result's array at the call's end. -/
theorem result_arr (hX : ∀ j, (rows m d j).toNat < 4101)
    (hw : ∀ i, (m ((d.tc : Thread nD τ).loc main_arg1) : FVec Ideal S4101x768 .f32) i ≠ (⊤ : EReal)
      ∧ (m ((d.tc : Thread nD τ).loc main_arg1) : FVec Ideal S4101x768 .f32) i ≠ (⊥ : EReal)) :
    (val4 m d (Proc.devRef .tc main_v13) : FVec Ideal S3072x256 .f32) = fun j => rowResult m d (j 0) (j 1) := by
  refine (Pipeline.afterRegion_arr (dat (val3 m) d) (val3 m d) winFacts1.arr_inj 6).trans ?_
  refine (dat (val3 m) d).arrAt_eq_of_covers 6 _ (by decide +kernel) fun t hf y => ?_
  blk_simp
  obtain ⟨p, o, rfl⟩ : ∃ p o : Fin 256, y = (ix2 p o : S256x256.Idx) := ⟨y 0, y 1, eq_ix2 (n0 := 256) (n1 := 256) y⟩
  have ht : t.val < 12 := t.isLt
  have hp := p.isLt
  refine (outBlk_apply m d hX hw t p o ⟨t.val * 256 + p.val, by omega⟩ rfl).trans ?_
  exact congrArg₂ (rowResult m d) (Fin.ext (emb6 t (ix2 p o : S256x256.Idx)).1.symm) (Fin.ext (emb6 t (ix2 p o : S256x256.Idx)).2.symm)

end Cert.KernelIdeal.Proved

end
-- ==== Proof.RefValue.lean ====
/-
  The reference's results, read at an index: each is `Tuner.out` of the counts of one feature's token rows.
-/
module

public import proofs.«01_k».proof.Proof.Gen.ReferenceIdeal.Run
public import proofs.«01_k».proof.Proof.CountMath
public import Idealize.ShloMosaic.Lib.StackMember
public import Idealize.ShloMosaic.Lib.IdealHost
public import Idealize.ShloMosaic.Lib.Pipeline.Value
public import Idealize.ShloMosaic.Lib.WordCmp

@[expose] public section

noncomputable section

namespace Cert.ReferenceIdeal.Proved

open Cert.ReferenceIdeal Cert.ReferenceIdeal.Gen Idealize.ShloMosaic Idealize.ShloMosaic.TcCoe Idealize.SL.Sem Idealize.ShloMosaic.ValueIdx
open Idealize.ShloMosaic.StackMember
open scoped BigOperators

/-- How often each value occurs in each token row. -/
def hits (tok : IVec S1024x200 32) : FVec Ideal S1024x4101 .f32 :=
  Host.reduceAdd (id (select (cmpi .eq (broadcastInDim S1024x200x4101 ![0, 1, 2] bcast_S1024x200x1_S1024x200x4101_0_1_2 (broadcastInDim S1024x200x1 ![0, 1] bcast_S1024x200_S1024x200x1_0_1 tok)) (broadcastInDim S1024x200x4101 ![0, 1, 2] bcast_S1x1x4101_S1024x200x4101_0_1_2 (broadcastInDim S1x1x4101 ![2] bcast_S4101_S1x1x4101_2 (iotaInDim S4101 32 0)))) (broadcastInDim S1024x200x4101 ![] bcast_S_S1024x200x4101 (constant S_ .f32 0x3F800000#32)) (broadcastInDim S1024x200x4101 ![] bcast_S_S1024x200x4101 (constant S_ .f32 0x00000000#32)))) (constant S_ .f32 0x00000000#32) reducesTo_S1024x200x4101_S1024x4101_d1 h_S_

/-- The counts with the first five values' left out. -/
def kept (tok : IVec S1024x200 32) : FVec Ideal S1024x4101 .f32 :=
  select (broadcastInDim S1024x4101 ![0, 1] bcast_S1x4101_S1024x4101_0_1 (cmpi .slt (broadcastInDim S1x4101 ![1] bcast_S4101_S1x4101_1 (iotaInDim S4101 32 0)) (broadcastInDim S1x4101 ![] bcast_S_S1x4101 (constantI S_ 32 5#32)))) (broadcastInDim S1024x4101 ![] bcast_S_S1024x4101 (id (constant S_ .f32 0x00000000#32))) (hits tok)

/-- Ten over each row's length. -/
def scales (tok : IVec S1024x200 32) : FVec Ideal S1024x1 .f32 :=
  Host.divf (broadcastInDim S1024x1 ![] bcast_S_S1024x1 (constant S_ .f32 0x41200000#32)) (maximumf (broadcastInDim S1024x1 ![0] bcast_S1024_S1024x1_0 (Host.reduceAdd (kept tok) (constant S_ .f32 0x00000000#32) reducesTo_S1024x4101_S1024_d1 h_S_)) (broadcastInDim S1024x1 ![] bcast_S_S1024x1 (constant S_ .f32 0x3F800000#32)))

/-- One feature's result, of its token rows. -/
def refOut (tok : IVec S1024x200 32) (w : FVec Ideal S4101x768 .f32) (b : FVec Ideal S768 .f32) (w2 : FVec Ideal S768x256 .f32)
    (b2 : FVec Ideal S256 .f32) : FVec Ideal S1024x256 .f32 :=
  addf (Host.dotGeneral (DotDims.plain 1024 768 256) none (maximumf (addf (Host.dotGeneral (DotDims.plain 1024 4101 768) none (mulf (kept tok) (broadcastInDim S1024x4101 ![0, 1] bcast_S1024x1_S1024x4101_0_1 (scales tok))) w) (broadcastInDim S1024x768 ![0, 1] bcast_S1x768_S1024x768_0_1 (broadcastInDim S1x768 ![1] bcast_S768_S1x768_1 b))) (broadcastInDim S1024x768 ![] bcast_S_S1024x768 (constant S_ .f32 0x00000000#32))) w2) (broadcastInDim S1024x256 ![0, 1] bcast_S1x256_S1024x256_0_1 (broadcastInDim S1x256 ![1] bcast_S256_S1x256_1 b2))

/-- The counts of a token row. -/
def rowCnt (tok : IVec S1024x200 32) (i : Fin 1024) (v : ℕ) : ℕ := Hist.cnt (fun l => tok (ix2 i l)) 200 v

theorem reduces3 : S1024x200x4101.Reduces [1] S1024x4101 := by decide
theorem reduces2 : S1024x4101.Reduces [1] S1024 := by decide

/-- The token rows over the reference's comparison. -/
theorem at_tok (tok : IVec S1024x200 32) (i : Fin 1024) (l : Fin 200) (v : Fin 4101) :
    broadcastInDim S1024x200x4101 ![0, 1, 2] bcast_S1024x200x1_S1024x200x4101_0_1_2
      (broadcastInDim S1024x200x1 ![0, 1] bcast_S1024x200_S1024x200x1_0_1 tok) (ix3 i l v) = tok (ix2 i l) := by
  refine (broadcastInDim_apply _ _ _ _ (ix3 i l (0 : Fin 1)) fun a => ?_).trans (broadcastInDim_apply _ _ _ _ (ix2 i l) fun a => ?_)
  · match a with | ⟨0, _⟩ => rfl | ⟨1, _⟩ => rfl | ⟨2, _⟩ => rfl
  · match a with | ⟨0, _⟩ => rfl | ⟨1, _⟩ => rfl

/-- The value compared with, likewise. -/
theorem at_val (i : Fin 1024) (l : Fin 200) (v : Fin 4101) :
    broadcastInDim S1024x200x4101 ![0, 1, 2] bcast_S1x1x4101_S1024x200x4101_0_1_2
      (broadcastInDim S1x1x4101 ![2] bcast_S4101_S1x1x4101_2 (iotaInDim S4101 32 0)) (ix3 i l v) = BitVec.ofNat 32 v.val := by
  refine (broadcastInDim_apply _ _ _ _ (ix3 (0 : Fin 1) (0 : Fin 1) v) fun a => ?_).trans
    ((broadcastInDim_apply _ _ _ _ (ix1 v) fun a => ?_).trans (iotaInDim_apply 32 0 (ix1 v)))
  · match a with | ⟨0, _⟩ => rfl | ⟨1, _⟩ => rfl | ⟨2, _⟩ => rfl
  · match a with | ⟨0, _⟩ => rfl

/-- A count read at an index. -/
theorem hits_apply (tok : IVec S1024x200 32) (i : Fin 1024) (v : Fin 4101) :
    hits tok (ix2 i v) = ((rowCnt tok i v.val : ℝ) : EReal) := by
  unfold hits
  rw [hostReduceAdd_apply, Ideal.hostReduceAdd_single _ reduces3]
  have e : ∀ l : Fin 200, (id (select (cmpi .eq (broadcastInDim S1024x200x4101 ![0, 1, 2] bcast_S1024x200x1_S1024x200x4101_0_1_2 (broadcastInDim S1024x200x1 ![0, 1] bcast_S1024x200_S1024x200x1_0_1 tok)) (broadcastInDim S1024x200x4101 ![0, 1, 2] bcast_S1x1x4101_S1024x200x4101_0_1_2 (broadcastInDim S1x1x4101 ![2] bcast_S4101_S1x1x4101_2 (iotaInDim S4101 32 0)))) (broadcastInDim S1024x200x4101 ![] bcast_S_S1024x200x4101 (constant (F := Ideal) S_ .f32 0x3F800000#32)) (broadcastInDim S1024x200x4101 ![] bcast_S_S1024x200x4101 (constant (F := Ideal) S_ .f32 0x00000000#32)))) (reduces3.lift (ix2 i v) l)
      = (((if (tok (ix2 i l)).toNat = v.val then 1 else 0 : ℝ)) : EReal) := by
    intro l
    have el : reduces3.lift (ix2 i v) l = ix3 i l v := by
      funext a; apply Fin.ext
      match a with | ⟨0, _⟩ => rfl | ⟨1, _⟩ => rfl | ⟨2, _⟩ => rfl
    rw [el, id, select_apply]
    show Scalar.select (IntOp.cmpi .eq (broadcastInDim _ _ _ _ (ix3 i l v)) (broadcastInDim _ _ _ _ (ix3 i l v))) _ _ = _
    rw [at_tok, at_val, broadcastInDim_scalar_apply, broadcastInDim_scalar_apply, constant_apply, constant_apply,
      Ideal.ofBits_one_f32, Ideal.ofBits_zero_f32]
    have hv : (BitVec.ofNat 32 v.val).toNat = v.val := by
      rw [BitVec.toNat_ofNat]; exact Nat.mod_eq_of_lt (by omega)
    by_cases h : (tok (ix2 i l)).toNat = v.val
    · have : tok (ix2 i l) = BitVec.ofNat 32 v.val := BitVec.eq_of_toNat_eq (h.trans hv.symm)
      rw [if_pos h, this]
      simp [IntOp.cmpi, Scalar.select]
    · have : tok (ix2 i l) ≠ BitVec.ofNat 32 v.val := fun hh => h (hh ▸ hv)
      rw [if_neg h]
      have hb : (tok (ix2 i l) == BitVec.ofNat 32 v.val) = false := beq_eq_false_iff_ne.mpr this
      simp [IntOp.cmpi, Scalar.select, hb]
  rw [show (∑ k : Fin (S1024x200x4101.size 1), _) = _ from Finset.sum_congr rfl fun l _ => e l]
  rw [← Tuner.coe_sum, Finset.sum_boole, constant_apply, Ideal.ofBits_zero_f32, zero_add]
  unfold rowCnt Hist.cnt
  refine congrArg (fun n : ℕ => ((n : ℝ) : EReal)) (congrArg Finset.card (Finset.filter_congr fun l _ => ?_))
  exact ⟨fun h => ⟨l.isLt, h⟩, fun h => h.2⟩

/-- A kept count read at an index. -/
theorem kept_apply (tok : IVec S1024x200 32) (i : Fin 1024) (v : Fin 4101) :
    kept tok (ix2 i v) = Tuner.keep (rowCnt tok i) v.val := by
  have ei : broadcastInDim S1x4101 ![1] bcast_S4101_S1x4101_1 (iotaInDim S4101 32 0) (ix2 (0 : Fin 1) v) = BitVec.ofNat 32 v.val := by
    refine (broadcastInDim_apply _ _ _ _ (ix1 v) fun a => ?_).trans (iotaInDim_apply 32 0 (ix1 v))
    match a with | ⟨0, _⟩ => rfl
  have em : broadcastInDim S1024x4101 ![0, 1] bcast_S1x4101_S1024x4101_0_1 (cmpi .slt (broadcastInDim S1x4101 ![1] bcast_S4101_S1x4101_1 (iotaInDim S4101 32 0)) (broadcastInDim S1x4101 ![] bcast_S_S1x4101 (constantI S_ 32 5#32))) (ix2 i v)
      = IntOp.cmpi .slt (BitVec.ofNat 32 v.val) 5#32 := by
    refine (broadcastInDim_apply _ _ _ _ (ix2 (0 : Fin 1) v) fun a => ?_).trans ?_
    · match a with | ⟨0, _⟩ => rfl | ⟨1, _⟩ => rfl
    · show IntOp.cmpi .slt (broadcastInDim _ _ _ _ (ix2 (0 : Fin 1) v)) (broadcastInDim _ _ _ _ (ix2 (0 : Fin 1) v)) = _
      rw [ei, broadcastInDim_scalar_apply]; rfl
  unfold kept
  rw [select_apply, em, hits_apply, broadcastInDim_scalar_apply, id, constant_apply, Ideal.ofBits_zero_f32]
  exact Tuner.select_five v.val (by omega) _ _

/-- The scale read at an index. -/
theorem scales_apply (tok : IVec S1024x200 32) (i : Fin 1024) : scales tok (ix2 i (0 : Fin 1)) = Tuner.scale (rowCnt tok i) := by
  unfold scales Tuner.scale
  rw [hostDivf_apply, maximumf_apply, broadcastInDim_scalar_apply, broadcastInDim_scalar_apply, constant_apply, constant_apply,
    Ideal.ofBits_one_f32]
  refine congrArg (fun x => Ideal.div _ (max x 1)) ?_
  refine (broadcastInDim_apply _ _ _ _ (ix1 i) fun a => ?_).trans ?_
  · match a with | ⟨0, _⟩ => rfl
  rw [hostReduceAdd_apply, Ideal.hostReduceAdd_single _ reduces2, constant_apply, Ideal.ofBits_zero_f32, zero_add]
  refine Finset.sum_congr rfl fun v _ => ?_
  rw [← kept_apply tok i v]
  refine congrArg (kept tok) (funext fun a => Fin.ext ?_)
  match a with | ⟨0, _⟩ => rfl | ⟨1, _⟩ => rfl

/-- A result read at an index. -/
theorem refOut_apply (tok : IVec S1024x200 32) (w : FVec Ideal S4101x768 .f32) (b : FVec Ideal S768 .f32) (w2 : FVec Ideal S768x256 .f32)
    (b2 : FVec Ideal S256 .f32) (i : Fin 1024) (o : Fin 256) :
    refOut tok w b w2 b2 (ix2 i o)
      = Tuner.out (rowCnt tok i) (fun v k => w (ix2 v k)) (fun k => b (ix1 k)) (fun k => w2 (ix2 k o)) (b2 (ix1 o)) := by
  unfold refOut Tuner.out
  rw [addf_apply, dotGeneral_plain_apply]
  refine congrArg₂ (· + ·) ?_ ?_
  · refine Finset.sum_congr rfl fun k _ => ?_
    refine congrArg (· * w2 (ix2 k o)) ?_
    unfold Tuner.unit
    rw [maximumf_apply, addf_apply, dotGeneral_plain_apply, broadcastInDim_scalar_apply, constant_apply, Ideal.ofBits_zero_f32]
    refine congrArg (max · 0) ?_
    refine congrArg₂ (· + ·) ?_ ?_
    · refine Finset.sum_congr rfl fun v _ => ?_
      rw [mulf_apply, kept_apply]
      refine congrArg (fun x => Tuner.keep (rowCnt tok i) v.val * x * w (ix2 v k)) ?_
      refine (broadcastInDim_apply _ _ _ _ (ix2 i (0 : Fin 1)) fun a => ?_).trans (scales_apply tok i)
      match a with | ⟨0, _⟩ => rfl | ⟨1, _⟩ => rfl
    · refine (broadcastInDim_apply _ _ _ _ (ix2 (0 : Fin 1) k) fun a => ?_).trans (broadcastInDim_apply _ _ _ _ (ix1 k) fun a => ?_)
      · match a with | ⟨0, _⟩ => rfl | ⟨1, _⟩ => rfl
      · match a with | ⟨0, _⟩ => rfl
  · refine (broadcastInDim_apply _ _ _ _ (ix2 (0 : Fin 1) o) fun a => ?_).trans (broadcastInDim_apply _ _ _ _ (ix1 o) fun a => ?_)
    · match a with | ⟨0, _⟩ => rfl | ⟨1, _⟩ => rfl
    · match a with | ⟨0, _⟩ => rfl

/-- One feature's token rows. -/
def feature (x : IVec S1024x3x200 32) (off : Fin 3 → ℕ) (h : S1024x3x200.Slices off S1024x1x200) : IVec S1024x200 32 :=
  shapeCast _ (extractStridedSlice S1024x1x200 off x h) shapeCasts_S1024x1x200_S1024x200

/-- The reference's run: each result is `refOut` of one feature's token rows. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = refOut (feature (m ((c.tc : Thread nD τ).loc main_arg0)) ![0, 0, 0] slices_S1024x3x200_S1024x1x200_0_0_0)
          (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v65) = refOut (feature (m ((c.tc : Thread nD τ).loc main_arg0)) ![0, 1, 0] slices_S1024x3x200_S1024x1x200_0_1_0)
          (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v98) = refOut (feature (m ((c.tc : Thread nD τ).loc main_arg0)) ![0, 2, 0] slices_S1024x3x200_S1024x1x200_0_2_0)
          (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1, (h c).2.1, (h c).2.2.1, (h c).2.2.2⟩) (Cert.ReferenceIdeal.Value.run (F := Ideal) m ρ)

/-- A feature's token rows read at an index. -/
theorem feature_apply (x : IVec S1024x3x200 32) (k : Fin 3) (h : S1024x3x200.Slices ![0, k.val, 0] S1024x1x200) (i : Fin 1024) (l : Fin 200) :
    feature x ![0, k.val, 0] h (ix2 i l) = x (ix3 i k l) := by
  unfold feature
  refine (shapeCast_apply _ _ _ (ix3 i (0 : Fin 1) l) ?_).trans (extractStridedSlice_apply _ _ _ _ _ fun a => ?_)
  · rw [Shape.rowMajor_val_three, Shape.rowMajor_val_two]
    show (i.val * 1 + 0) * 200 + l.val = i.val * 200 + l.val
    omega
  · match a with
    | ⟨0, _⟩ => exact (Nat.zero_add _).symm
    | ⟨1, _⟩ => rfl
    | ⟨2, _⟩ => exact (Nat.zero_add _).symm

end Cert.ReferenceIdeal.Proved

end
-- ==== Proof.Equation.lean ====
/-
  The kernel's three results equal the reference's, over the extended reals.
-/
module

public import proofs.«01_k».proof.Proof.ResultValue
public import proofs.«01_k».proof.Proof.RefValue
public import proofs.«01_k».proof.Proof.KernelIdealFrame
public import proofs.«01_k».proof.Proof.Gen.ReferenceIdeal
public import proofs.«01_k».proof.Proof.Gen.Pre_tokens_in_range

@[expose] public section

noncomputable section

namespace Cert.KernelIdeal.Proved

open Cert.KernelIdeal Cert.KernelIdeal.Gen
open Idealize.ShloMosaic hiding ix1 ix2 ix3 eq_ix2
open Idealize.ShloMosaic.ValueIdx Idealize.ShloMosaic.TcCoe

/-- Over the extended reals, a value whose size is below infinity is neither infinity. -/
theorem finite_of_lt (x : EReal)
    (h : FloatOps.cmpf (F := Ideal) .olt (FloatOps.hostAbsf (F := Ideal) (φ := .f32) x) (FloatOps.ofBits (F := Ideal) .f32 0x7F800000#32) = 1#1) :
    x ≠ ⊤ ∧ x ≠ ⊥ := by
  have top : Ideal.ofBits .f32 0x7F800000#32 = ⊤ := by simp [Ideal.ofBits, Ideal.ieee]
  have h' : Ideal.cmp .olt (max x (-x)) (Ideal.ofBits .f32 0x7F800000#32) = 1#1 := h
  rw [top] at h'
  constructor
  · rintro rfl; simp [Ideal.cmp] at h'
  · rintro rfl; simp [Ideal.cmp] at h'

variable (m : (ℓ : Loc nD τ sig) → Buf (Elt Ideal) ℓ) (d : Dev nD)

/-- Under the precondition the first layer's weights are finite. -/
theorem weights_finite (h : PreAt m) (i : S4101x768.Idx) :
    (m ((d.tc : Thread nD τ).loc main_arg1) : FVec Ideal S4101x768 .f32) i ≠ (⊤ : EReal)
      ∧ (m ((d.tc : Thread nD τ).loc main_arg1) : FVec Ideal S4101x768 .f32) i ≠ (⊥ : EReal) :=
  finite_of_lt _ ((TokenPre.parts _ _ _ _ _ (h d)).2 i)

/-- The row of a feature and a batch entry, among all the token rows. -/
def rowOf (k : Fin 3) (i : Fin 1024) : Fin 3072 := ⟨k.val * 1024 + i.val, by omega⟩

/-- A token read from its row. -/
theorem rows_apply (k : Fin 3) (i : Fin 1024) (l : Fin 200) :
    rows m d (ix2 (rowOf k i) l) = (m ((d.tc : Thread nD τ).loc main_arg0) : IVec S1024x3x200 32) (ix3 i k l) := by
  rw [rows_eq]
  refine (shapeCast_apply _ _ _ (ix3 k i l) ?_).trans (transpose_apply _ _ _ _ _ fun b => ?_)
  · rw [Shape.rowMajor_val_three, Shape.rowMajor_val_two]
    rfl
  · match b with | ⟨0, _⟩ => rfl | ⟨1, _⟩ => rfl | ⟨2, _⟩ => rfl

/-- One feature's part of the call's result is the reference's result for that feature. -/
theorem feature_result (h : PreAt m) (k : Fin 3) (hs : S3072x256.Slices ![k.val * 1024, 0] S1024x256)
    (hf : S1024x3x200.Slices ![0, k.val, 0] Cert.ReferenceIdeal.S1024x1x200) :
    extractStridedSlice S1024x256 ![k.val * 1024, 0] (val4 m d (Proc.devRef .tc main_v13) : FVec Ideal S3072x256 .f32) hs
      = Cert.ReferenceIdeal.Proved.refOut
          (Cert.ReferenceIdeal.Proved.feature (m ((d.tc : Thread nD τ).loc main_arg0)) ![0, k.val, 0] hf)
          (m ((d.tc : Thread nD τ).loc main_arg1)) (m ((d.tc : Thread nD τ).loc main_arg2)) (m ((d.tc : Thread nD τ).loc main_arg3))
          (m ((d.tc : Thread nD τ).loc main_arg4)) := by
  funext j
  obtain ⟨i, o, rfl⟩ : ∃ (i : Fin 1024) (o : Fin 256), j = ix2 i o := ⟨j 0, j 1, eq_ix2 j⟩
  refine (extractStridedSlice_apply _ _ _ _ (ix2 (rowOf k i) o) fun a => ?_).trans ?_
  · match a with
    | ⟨0, _⟩ => rfl
    | ⟨1, _⟩ => exact (Nat.zero_add _).symm
  refine (congrFun (result_arr m d (rows_lt m h d) (weights_finite m d h)) _).trans ?_
  refine Eq.trans ?_ (Cert.ReferenceIdeal.Proved.refOut_apply _ _ _ _ _ i o).symm
  have ec : rowCnt m d (rowOf k i)
      = Cert.ReferenceIdeal.Proved.rowCnt (Cert.ReferenceIdeal.Proved.feature (m ((d.tc : Thread nD τ).loc main_arg0)) ![0, k.val, 0] hf) i := by
    funext v
    unfold rowCnt Cert.ReferenceIdeal.Proved.rowCnt
    refine congrArg (fun f => Hist.cnt f 200 v) (funext fun l => ?_)
    exact (rows_apply m d k i l).trans (Cert.ReferenceIdeal.Proved.feature_apply _ k hf i l).symm
  show rowResult m d (rowOf k i) o = _
  unfold rowResult
  rw [ec]

theorem val5_v14 : val5 m d (Proc.devRef .tc main_v14)
    = extractStridedSlice S1024x256 ![0, 0] (val4 m d (Proc.devRef .tc main_v13) : FVec Ideal S3072x256 .f32) slices_S3072x256_S1024x256_0_0 := by
  unfold val5 ops3; after_results

theorem val5_v15 : val5 m d (Proc.devRef .tc main_v15)
    = extractStridedSlice S1024x256 ![1024, 0] (val4 m d (Proc.devRef .tc main_v13) : FVec Ideal S3072x256 .f32) slices_S3072x256_S1024x256_1024_0 := by
  unfold val5 ops3; after_results

theorem val5_v16 : val5 m d (Proc.devRef .tc main_v16)
    = extractStridedSlice S1024x256 ![2048, 0] (val4 m d (Proc.devRef .tc main_v13) : FVec Ideal S3072x256 .f32) slices_S3072x256_S1024x256_2048_0 := by
  unfold val5 ops3; after_results

end Cert.KernelIdeal.Proved

namespace Cert.Proof

open Idealize.ShloMosaic Idealize.ShloMosaic.TcCoe Idealize.SL.Sem
open Cert.KernelIdeal.Proved

/-- The value claim: the three results agree. -/
theorem equation : Cert.algebraic_KernelIdeal_ReferenceIdeal := by
  intro m g m' g' hpre hargs
  refine ⟨fun c => val5 m c (Proc.devRef .tc Cert.KernelIdeal.main_v14), fun c => val5 m c (Proc.devRef .tc Cert.KernelIdeal.main_v15),
    fun c => val5 m c (Proc.devRef .tc Cert.KernelIdeal.main_v16), ?_, ?_⟩
  · refine (θ_run Cert.KernelIdeal.defs _ _).mono (fun r h c => ?_) (run_pre m g hpre)
    exact ⟨h.1 c _ (Pipeline.devRef_mem_ucRefs rfl), h.1 c _ (Pipeline.devRef_mem_ucRefs rfl), h.1 c _ (Pipeline.devRef_mem_ucRefs rfl),
      args_kept m h.1 c⟩
  · refine (θ_run Cert.ReferenceIdeal.defs _ _).mono (fun r h c => ?_) (Cert.ReferenceIdeal.Proved.run m' g')
    obtain ⟨h0, h1, h2, hk⟩ := h c
    obtain ⟨a0, a1, a2, a3, a4⟩ := hargs c
    rw [a0, a1, a2, a3, a4] at h0 h1 h2
    refine ⟨h0.trans ?_, h1.trans ?_, h2.trans ?_, hk⟩
    · exact ((val5_v14 m c).trans (feature_result m c hpre 0 _ _)).symm
    · exact ((val5_v15 m c).trans (feature_result m c hpre 1 _ _)).symm
    · exact ((val5_v16 m c).trans (feature_result m c hpre 2 _ _)).symm

end Cert.Proof

end
-- ==== Proof.lean ====
/-
  The proof of the claims: the two kernel programs' frames, the reference's, and the equation of their results.
-/
module

public import proofs.«01_k».proof.Defs
public import proofs.«01_k».proof.Proof.KernelFrame
public import proofs.«01_k».proof.Proof.KernelIdealFrame
public import proofs.«01_k».proof.Proof.Gen.ReferenceIdeal
public import proofs.«01_k».proof.Proof.ReferenceFrame
public import proofs.«01_k».proof.Proof.Equation
public import proofs.«01_k».proof.Proof.Gen.Pre_tokens_in_range

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_tokens_in_range.Gen.facts,
  Cert.Kernel.Proved.frame, Cert.KernelIdeal.Proved.frame, Cert.ReferenceIdeal.Proved.frame, Cert.ReferenceIdeal.Proved.frame_pre, trivial, Cert.Proof.equation⟩

end Cert.Proof

end
